-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_in_range [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_range [hPre_labels_in_range : Cert.Pre_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_labels_in_range [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_labels_in_range [hReferenceIdeal : Cert.ReferenceIdeal.Facts] [hPre_labels_in_range : Cert.Pre_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_labels_in_range [hKernelIdeal : Cert.KernelIdeal.Facts] [hReferenceIdeal : Cert.ReferenceIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v39)) (v1 : (c : Dev Cert.KernelIdeal.nD) → Buf (Elt Ideal) ((c.tc : Thread Cert.KernelIdeal.nD Cert.KernelIdeal.τ).loc Cert.KernelIdeal.main_v15)) (v2 : (c : Dev Cert.KernelIdeal.nD) → Buf (Elt Ideal) ((c.tc : Thread Cert.KernelIdeal.nD Cert.KernelIdeal.τ).loc Cert.KernelIdeal.main_v40)) (v3 : (c : Dev Cert.KernelIdeal.nD) → Buf (Elt Ideal) ((c.tc : Thread Cert.KernelIdeal.nD Cert.KernelIdeal.τ).loc Cert.KernelIdeal.main_v34)) (v4 : (c : Dev Cert.KernelIdeal.nD) → Buf (Elt Ideal) ((c.tc : Thread Cert.KernelIdeal.nD Cert.KernelIdeal.τ).loc Cert.KernelIdeal.main_v41)) (v5 : (c : Dev Cert.KernelIdeal.nD) → Buf (Elt Ideal) ((c.tc : Thread Cert.KernelIdeal.nD Cert.KernelIdeal.τ).loc Cert.KernelIdeal.main_v19)) (v6 : (c : Dev Cert.KernelIdeal.nD) → Buf (Elt Ideal) ((c.tc : Thread Cert.KernelIdeal.nD Cert.KernelIdeal.τ).loc Cert.KernelIdeal.main_v43)) (v7 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_v40) = v2 c
          ∧ r.2.mem ((c.tc : Thread Cert.KernelIdeal.nD Cert.KernelIdeal.τ).loc Cert.KernelIdeal.main_v34) = v3 c
          ∧ r.2.mem ((c.tc : Thread Cert.KernelIdeal.nD Cert.KernelIdeal.τ).loc Cert.KernelIdeal.main_v41) = v4 c
          ∧ r.2.mem ((c.tc : Thread Cert.KernelIdeal.nD Cert.KernelIdeal.τ).loc Cert.KernelIdeal.main_v19) = v5 c
          ∧ r.2.mem ((c.tc : Thread Cert.KernelIdeal.nD Cert.KernelIdeal.τ).loc Cert.KernelIdeal.main_v43) = v6 c
          ∧ r.2.mem ((c.tc : Thread Cert.KernelIdeal.nD Cert.KernelIdeal.τ).loc Cert.KernelIdeal.main_v38) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_v29) = v3 c
          ∧ r.2.mem ((c.tc : Thread Cert.ReferenceIdeal.nD Cert.ReferenceIdeal.τ).loc Cert.ReferenceIdeal.main_v44) = v4 c
          ∧ r.2.mem ((c.tc : Thread Cert.ReferenceIdeal.nD Cert.ReferenceIdeal.τ).loc Cert.ReferenceIdeal.main_v40) = v5 c
          ∧ r.2.mem ((c.tc : Thread Cert.ReferenceIdeal.nD Cert.ReferenceIdeal.τ).loc Cert.ReferenceIdeal.main_v55) = v6 c
          ∧ r.2.mem ((c.tc : Thread Cert.ReferenceIdeal.nD Cert.ReferenceIdeal.τ).loc Cert.ReferenceIdeal.main_v51) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_labels_in_range : Cert.Pre_labels_in_range.Facts),
    quiescent_Kernel (hKernel := hKernel)
    ∧ quiescent_KernelIdeal (hKernelIdeal := hKernelIdeal)
    ∧ quiescent_KernelIdeal_pre_labels_in_range (hKernelIdeal := hKernelIdeal) (hPre_labels_in_range := hPre_labels_in_range)
    ∧ quiescent_ReferenceIdeal (hReferenceIdeal := hReferenceIdeal)
    ∧ quiescent_ReferenceIdeal_pre_labels_in_range (hReferenceIdeal := hReferenceIdeal) (hPre_labels_in_range := hPre_labels_in_range)
    ∧ preserves_Kernel_KernelIdeal
    ∧ algebraic_KernelIdeal_ReferenceIdeal_pre_labels_in_range (hKernelIdeal := hKernelIdeal) (hReferenceIdeal := hReferenceIdeal) (hPre_labels_in_range := hPre_labels_in_range)
-- ==== Pre_labels_in_range.lean ====
abbrev S8x512x512 : Shape := ⟨3, ![8, 512, 512]⟩
abbrev S8x512 : Shape := ⟨2, ![8, 512]⟩
abbrev S8x32x256x512 : Shape := ⟨4, ![8, 32, 256, 512]⟩
abbrev S8x32x256 : Shape := ⟨3, ![8, 32, 256]⟩
abbrev S_ : Shape := ⟨0, ![]⟩

class Facts : Prop where
  bcast_S_S8x512 : S_.BroadcastsInDim S8x512 (![] : Fin 0 → Fin S8x512.rank)
  reducesTo_S8x512_S_d0_1 : S8x512.ReducesTo [0, 1] S_
  h_S_ : 0 < S_.numel
  bcast_S_S8x32x256 : S_.BroadcastsInDim S8x32x256 (![] : Fin 0 → Fin S8x32x256.rank)
  reducesTo_S8x32x256_S_d0_1_2 : S8x32x256.ReducesTo [0, 1, 2] S_

variable [Facts]

def fn {F : FTy → Type} [FloatOps F] (main_arg0 : FVec F S8x512x512 .f32) (main_arg1 : IVec S8x512 32) (main_arg2 : FVec F S8x32x256x512 .f32) (main_arg3 : IVec S8x32x256 32) : IVec S_ 1 × IVec S_ 1 :=
  let main_c : IVec S_ 32 := constantI S_ 32 0#32
  let main_v0 : IVec S8x512 32 := broadcastInDim S8x512 ![] bcast_S_S8x512 main_c
  let main_v1 : IVec S8x512 1 := cmpi .sge main_arg1 main_v0
  let main_c_0 : IVec S_ 32 := constantI S_ 32 5#32
  let main_v2 : IVec S8x512 32 := broadcastInDim S8x512 ![] bcast_S_S8x512 main_c_0
  let main_v3 : IVec S8x512 1 := cmpi .sle main_arg1 main_v2
  let main_v4 : IVec S8x512 1 := andi main_v1 main_v3
  let main_c_1 : IVec S_ 1 := constantI S_ 1 1#1
  let main_v5 : IVec S_ 1 := (fun x v => Host.reduce IntOp.andi x v reducesTo_S8x512_S_d0_1 h_S_) main_v4 main_c_1
  let main_c_2 : IVec S_ 32 := constantI S_ 32 0#32
  let main_v6 : IVec S8x32x256 32 := broadcastInDim S8x32x256 ![] bcast_S_S8x32x256 main_c_2
  let main_v7 : IVec S8x32x256 1 := cmpi .sge main_arg3 main_v6
  let main_c_3 : IVec S_ 32 := constantI S_ 32 5#32
  let main_v8 : IVec S8x32x256 32 := broadcastInDim S8x32x256 ![] bcast_S_S8x32x256 main_c_3
  let main_v9 : IVec S8x32x256 1 := cmpi .sle main_arg3 main_v8
  let main_v10 : IVec S8x32x256 1 := andi main_v7 main_v9
  let main_c_4 : IVec S_ 1 := constantI S_ 1 1#1
  let main_v11 : IVec S_ 1 := (fun x v => Host.reduce IntOp.andi x v reducesTo_S8x32x256_S_d0_1_2 h_S_) main_v10 main_c_4
  (main_v5, main_v11)
-- ==== Kernel.lean ====
abbrev S8x512x512 : Shape := ⟨3, ![8, 512, 512]⟩
abbrev S8x512 : Shape := ⟨2, ![8, 512]⟩
abbrev S8x32x256x512 : Shape := ⟨4, ![8, 32, 256, 512]⟩
abbrev S8x32x256 : Shape := ⟨3, ![8, 32, 256]⟩
abbrev S8x5x32x512 : Shape := ⟨4, ![8, 5, 32, 512]⟩
abbrev S8x1x32x512 : Shape := ⟨4, ![8, 1, 32, 512]⟩
abbrev S5x8x512 : Shape := ⟨3, ![5, 8, 512]⟩
abbrev S1x8x512 : Shape := ⟨3, ![1, 8, 512]⟩
abbrev S1x32x256 : Shape := ⟨3, ![1, 32, 256]⟩
abbrev S1x32x256x512 : Shape := ⟨4, ![1, 32, 256, 512]⟩
abbrev S1x5x32x512 : Shape := ⟨4, ![1, 5, 32, 512]⟩
abbrev S1x1x32x512 : Shape := ⟨4, ![1, 1, 32, 512]⟩
abbrev S1x1x256 : Shape := ⟨3, ![1, 1, 256]⟩
abbrev S1x256 : Shape := ⟨2, ![1, 256]⟩
abbrev S1x1x256x512 : Shape := ⟨4, ![1, 1, 256, 512]⟩
abbrev S256x512 : Shape := ⟨2, ![256, 512]⟩
abbrev S8x256 : Shape := ⟨2, ![8, 256]⟩
abbrev S8 : Shape := ⟨1, ![8]⟩
abbrev S8x1 : Shape := ⟨2, ![8, 1]⟩
abbrev S5x512 : Shape := ⟨2, ![5, 512]⟩
abbrev S1x5x1x512 : Shape := ⟨4, ![1, 5, 1, 512]⟩
abbrev S1x512 : Shape := ⟨2, ![1, 512]⟩
abbrev S1x1x1x512 : Shape := ⟨4, ![1, 1, 1, 512]⟩
abbrev S1x512x512 : Shape := ⟨3, ![1, 512, 512]⟩
abbrev S512x512 : Shape := ⟨2, ![512, 512]⟩
abbrev S5x1x512 : Shape := ⟨3, ![5, 1, 512]⟩
abbrev S1x1x512 : Shape := ⟨3, ![1, 1, 512]⟩
abbrev S_ : Shape := ⟨0, ![]⟩
abbrev S5 : Shape := ⟨1, ![5]⟩
abbrev S1x5 : Shape := ⟨2, ![1, 5]⟩
abbrev S8x5 : Shape := ⟨2, ![8, 5]⟩
abbrev S8x32 : Shape := ⟨2, ![8, 32]⟩
abbrev S8x32x1 : Shape := ⟨3, ![8, 32, 1]⟩
abbrev S1x1x5 : Shape := ⟨3, ![1, 1, 5]⟩
abbrev S8x32x5 : Shape := ⟨3, ![8, 32, 5]⟩
abbrev S8x5x512 : Shape := ⟨3, ![8, 5, 512]⟩
abbrev S8x32x5x512 : Shape := ⟨4, ![8, 32, 5, 512]⟩
abbrev S8x32x1x512 : Shape := ⟨4, ![8, 32, 1, 512]⟩
abbrev S8x32x512 : Shape := ⟨3, ![8, 32, 512]⟩

abbrev nBuf : Space → Nat
  | .hbm => 65
  | .vmem => 12
  | .smem => 0
  | _ => 0

abbrev bufTy : (tb : Table) → Fin (tcTables nBuf tb) → BufTy
  | .hbm, ⟨0, _⟩ => ⟨S8x512x512, .f32⟩
  | .hbm, ⟨1, _⟩ => ⟨S8x512, .i32⟩
  | .hbm, ⟨2, _⟩ => ⟨S8x32x256x512, .f32⟩
  | .hbm, ⟨3, _⟩ => ⟨S8x32x256, .i32⟩
  | .hbm, ⟨4, _⟩ => ⟨S8x5x32x512, .f32⟩
  | .hbm, ⟨5, _⟩ => ⟨S8x1x32x512, .f32⟩
  | .hbm, ⟨6, _⟩ => ⟨S5x8x512, .f32⟩
  | .hbm, ⟨7, _⟩ => ⟨S1x8x512, .f32⟩
  | .hbm, ⟨8, _⟩ => ⟨S_, .i32⟩
  | .hbm, ⟨9, _⟩ => ⟨S8x512, .i32⟩
  | .hbm, ⟨10, _⟩ => ⟨S8x512, .i32⟩
  | .hbm, ⟨11, _⟩ => ⟨S_, .i32⟩
  | .hbm, ⟨12, _⟩ => ⟨S8, .i32⟩
  | .hbm, ⟨13, _⟩ => ⟨S5, .i32⟩
  | .hbm, ⟨14, _⟩ => ⟨S_, .i32⟩
  | .hbm, ⟨15, _⟩ => ⟨S5, .i32⟩
  | .hbm, ⟨16, _⟩ => ⟨S5, .i32⟩
  | .hbm, ⟨17, _⟩ => ⟨S8x1, .i32⟩
  | .hbm, ⟨18, _⟩ => ⟨S1x5, .i32⟩
  | .hbm, ⟨19, _⟩ => ⟨S8x5, .i32⟩
  | .hbm, ⟨20, _⟩ => ⟨S8x5, .i32⟩
  | .hbm, ⟨21, _⟩ => ⟨S8x5, .i32⟩
  | .hbm, ⟨22, _⟩ => ⟨S_, .i32⟩
  | .hbm, ⟨23, _⟩ => ⟨S8x5, .i32⟩
  | .hbm, ⟨24, _⟩ => ⟨S8x5, .i32⟩
  | .hbm, ⟨25, _⟩ => ⟨S_, .i32⟩
  | .hbm, ⟨26, _⟩ => ⟨S8x5, .i32⟩
  | .hbm, ⟨27, _⟩ => ⟨S8x5, .i1⟩
  | .hbm, ⟨28, _⟩ => ⟨S_, .i32⟩
  | .hbm, ⟨29, _⟩ => ⟨S8, .i32⟩
  | .hbm, ⟨30, _⟩ => ⟨S8, .i32⟩
  | .hbm, ⟨31, _⟩ => ⟨S_, .i32⟩
  | .hbm, ⟨32, _⟩ => ⟨S8, .i32⟩
  | .hbm, ⟨33, _⟩ => ⟨S8, .i1⟩
  | .hbm, ⟨34, _⟩ => ⟨S_, .i32⟩
  | .hbm, ⟨35, _⟩ => ⟨S8x32x256, .i32⟩
  | .hbm, ⟨36, _⟩ => ⟨S8x32x256, .i32⟩
  | .hbm, ⟨37, _⟩ => ⟨S_, .i32⟩
  | .hbm, ⟨38, _⟩ => ⟨S8x32, .i32⟩
  | .hbm, ⟨39, _⟩ => ⟨S5, .i32⟩
  | .hbm, ⟨40, _⟩ => ⟨S_, .i32⟩
  | .hbm, ⟨41, _⟩ => ⟨S5, .i32⟩
  | .hbm, ⟨42, _⟩ => ⟨S5, .i32⟩
  | .hbm, ⟨43, _⟩ => ⟨S8x32x1, .i32⟩
  | .hbm, ⟨44, _⟩ => ⟨S1x1x5, .i32⟩
  | .hbm, ⟨45, _⟩ => ⟨S8x32x5, .i32⟩
  | .hbm, ⟨46, _⟩ => ⟨S8x32x5, .i32⟩
  | .hbm, ⟨47, _⟩ => ⟨S8x32x5, .i32⟩
  | .hbm, ⟨48, _⟩ => ⟨S_, .i32⟩
  | .hbm, ⟨49, _⟩ => ⟨S8x32x5, .i32⟩
  | .hbm, ⟨50, _⟩ => ⟨S8x32x5, .i32⟩
  | .hbm, ⟨51, _⟩ => ⟨S_, .i32⟩
  | .hbm, ⟨52, _⟩ => ⟨S8x32x5, .i32⟩
  | .hbm, ⟨53, _⟩ => ⟨S8x32x5, .i1⟩
  | .hbm, ⟨54, _⟩ => ⟨S_, .i32⟩
  | .hbm, ⟨55, _⟩ => ⟨S8x32, .i32⟩
  | .hbm, ⟨56, _⟩ => ⟨S8x32, .i32⟩
  | .hbm, ⟨57, _⟩ => ⟨S_, .i32⟩
  | .hbm, ⟨58, _⟩ => ⟨S8x32, .i32⟩
  | .hbm, ⟨59, _⟩ => ⟨S8x32, .i1⟩
  | .hbm, ⟨60, _⟩ => ⟨S8x5x512, .f32⟩
  | .hbm, ⟨61, _⟩ => ⟨S8x32x5x512, .f32⟩
  | .hbm, ⟨62, _⟩ => ⟨S8x512, .f32⟩
  | .hbm, ⟨63, _⟩ => ⟨S8x32x1x512, .f32⟩
  | .hbm, ⟨64, _⟩ => ⟨S8x32x512, .f32⟩
  | .local _ .vmem, ⟨0, _⟩ => ⟨S1x32x256, .i32⟩
  | .local _ .vmem, ⟨1, _⟩ => ⟨S1x32x256, .i32⟩
  | .local _ .vmem, ⟨2, _⟩ => ⟨S1x32x256x512, .f32⟩
  | .local _ .vmem, ⟨3, _⟩ => ⟨S1x32x256x512, .f32⟩
  | .local _ .vmem, ⟨4, _⟩ => ⟨S8x512, .i32⟩
  | .local _ .vmem, ⟨5, _⟩ => ⟨S8x512x512, .f32⟩
  | .local _ .vmem, ⟨6, _⟩ => ⟨S1x5x32x512, .f32⟩
  | .local _ .vmem, ⟨7, _⟩ => ⟨S1x5x32x512, .f32⟩
  | .local _ .vmem, ⟨8, _⟩ => ⟨S1x1x32x512, .f32⟩
  | .local _ .vmem, ⟨9, _⟩ => ⟨S1x1x32x512, .f32⟩
  | .local _ .vmem, ⟨10, _⟩ => ⟨S5x8x512, .f32⟩
  | .local _ .vmem, ⟨11, _⟩ => ⟨S1x8x512, .f32⟩
  | _, _ => ⟨S8x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_c_5 : Ref sig .tc := ⟨.hbm, 31, rfl⟩
abbrev main_v18 : Ref sig .tc := ⟨.hbm, 32, rfl⟩
abbrev main_v19 : Ref sig .tc := ⟨.hbm, 33, rfl⟩
abbrev main_c_6 : Ref sig .tc := ⟨.hbm, 34, rfl⟩
abbrev main_v20 : Ref sig .tc := ⟨.hbm, 35, rfl⟩
abbrev main_v21 : Ref sig .tc := ⟨.hbm, 36, rfl⟩
abbrev main_c_7 : Ref sig .tc := ⟨.hbm, 37, rfl⟩
abbrev main_v22 : Ref sig .tc := ⟨.hbm, 38, rfl⟩
abbrev main_v23 : Ref sig .tc := ⟨.hbm, 39, rfl⟩
abbrev main_c_8 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_9 : Ref sig .tc := ⟨.hbm, 48, rfl⟩
abbrev main_v31 : Ref sig .tc := ⟨.hbm, 49, rfl⟩
abbrev main_v32 : Ref sig .tc := ⟨.hbm, 50, rfl⟩
abbrev main_c_10 : Ref sig .tc := ⟨.hbm, 51, rfl⟩
abbrev main_v33 : Ref sig .tc := ⟨.hbm, 52, rfl⟩
abbrev main_v34 : Ref sig .tc := ⟨.hbm, 53, rfl⟩
abbrev main_c_11 : Ref sig .tc := ⟨.hbm, 54, rfl⟩
abbrev main_v35 : Ref sig .tc := ⟨.hbm, 55, rfl⟩
abbrev main_v36 : Ref sig .tc := ⟨.hbm, 56, rfl⟩
abbrev main_c_12 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_828 : BitVec 32 := 0#32
  let v1280 : BitVec 1 := Scalar.cmpi .eq arg0 c0_i32_828
  let v1281 : BitVec 32 := Scalar.extui v1280
  let c0_i32_829 : BitVec 32 := 0#32
  let v1282 : BitVec 1 := Scalar.cmpi .ne v1281 c0_i32_829
  v1282

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x32x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x512 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x5x32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S5x8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S8x512x512 : Shape := ⟨3, ![8, 512, 512]⟩
abbrev S8x512 : Shape := ⟨2, ![8, 512]⟩
abbrev S8x32x256x512 : Shape := ⟨4, ![8, 32, 256, 512]⟩
abbrev S8x32x256 : Shape := ⟨3, ![8, 32, 256]⟩
abbrev S8x512x1 : Shape := ⟨3, ![8, 512, 1]⟩
abbrev S5 : Shape := ⟨1, ![5]⟩
abbrev S_ : Shape := ⟨0, ![]⟩
abbrev S1x1x5 : Shape := ⟨3, ![1, 1, 5]⟩
abbrev S8x512x5 : Shape := ⟨3, ![8, 512, 5]⟩
abbrev S8x5x512 : Shape := ⟨3, ![8, 5, 512]⟩
abbrev S8x5 : Shape := ⟨2, ![8, 5]⟩
abbrev S8x5x1 : Shape := ⟨3, ![8, 5, 1]⟩
abbrev S8x32x256x1 : Shape := ⟨4, ![8, 32, 256, 1]⟩
abbrev S1x1x1x5 : Shape := ⟨4, ![1, 1, 1, 5]⟩
abbrev S8x32x256x5 : Shape := ⟨4, ![8, 32, 256, 5]⟩
abbrev S8x32x5x512 : Shape := ⟨4, ![8, 32, 5, 512]⟩
abbrev S8x32x5 : Shape := ⟨3, ![8, 32, 5]⟩
abbrev S8x32x5x1 : Shape := ⟨4, ![8, 32, 5, 1]⟩
abbrev S8 : Shape := ⟨1, ![8]⟩
abbrev S8x1 : Shape := ⟨2, ![8, 1]⟩
abbrev S8x32x512 : Shape := ⟨3, ![8, 32, 512]⟩
abbrev S8x32 : Shape := ⟨2, ![8, 32]⟩
abbrev S8x32x1 : Shape := ⟨3, ![8, 32, 1]⟩

abbrev nBuf : Space → Nat
  | .hbm => 80
  | .vmem => 0
  | .smem => 0
  | _ => 0

abbrev bufTy : (tb : Table) → Fin (tcTables nBuf tb) → BufTy
  | .hbm, ⟨0, _⟩ => ⟨S8x512x512, .f32⟩
  | .hbm, ⟨1, _⟩ => ⟨S8x512, .i32⟩
  | .hbm, ⟨2, _⟩ => ⟨S8x32x256x512, .f32⟩
  | .hbm, ⟨3, _⟩ => ⟨S8x32x256, .i32⟩
  | .hbm, ⟨4, _⟩ => ⟨S8x512x1, .i32⟩
  | .hbm, ⟨5, _⟩ => ⟨S5, .i32⟩
  | .hbm, ⟨6, _⟩ => ⟨S_, .i32⟩
  | .hbm, ⟨7, _⟩ => ⟨S5, .i32⟩
  | .hbm, ⟨8, _⟩ => ⟨S5, .i32⟩
  | .hbm, ⟨9, _⟩ => ⟨S1x1x5, .i32⟩
  | .hbm, ⟨10, _⟩ => ⟨S8x512x5, .i32⟩
  | .hbm, ⟨11, _⟩ => ⟨S8x512x5, .i32⟩
  | .hbm, ⟨12, _⟩ => ⟨S8x512x5, .i1⟩
  | .hbm, ⟨13, _⟩ => ⟨S8x512x5, .f32⟩
  | .hbm, ⟨14, _⟩ => ⟨S8x5x512, .f32⟩
  | .hbm, ⟨15, _⟩ => ⟨S_, .f32⟩
  | .hbm, ⟨16, _⟩ => ⟨S8x5, .f32⟩
  | .hbm, ⟨17, _⟩ => ⟨S_, .f32⟩
  | .hbm, ⟨18, _⟩ => ⟨S8x5, .f32⟩
  | .hbm, ⟨19, _⟩ => ⟨S8x5, .i1⟩
  | .hbm, ⟨20, _⟩ => ⟨S_, .f32⟩
  | .hbm, ⟨21, _⟩ => ⟨S8x5, .f32⟩
  | .hbm, ⟨22, _⟩ => ⟨S8x5, .f32⟩
  | .hbm, ⟨23, _⟩ => ⟨S8x5x1, .f32⟩
  | .hbm, ⟨24, _⟩ => ⟨S8x5x512, .f32⟩
  | .hbm, ⟨25, _⟩ => ⟨S8x5x512, .f32⟩
  | .hbm, ⟨26, _⟩ => ⟨S8x32x256x1, .i32⟩
  | .hbm, ⟨27, _⟩ => ⟨S5, .i32⟩
  | .hbm, ⟨28, _⟩ => ⟨S_, .i32⟩
  | .hbm, ⟨29, _⟩ => ⟨S5, .i32⟩
  | .hbm, ⟨30, _⟩ => ⟨S5, .i32⟩
  | .hbm, ⟨31, _⟩ => ⟨S1x1x1x5, .i32⟩
  | .hbm, ⟨32, _⟩ => ⟨S8x32x256x5, .i32⟩
  | .hbm, ⟨33, _⟩ => ⟨S8x32x256x5, .i32⟩
  | .hbm, ⟨34, _⟩ => ⟨S8x32x256x5, .i1⟩
  | .hbm, ⟨35, _⟩ => ⟨S8x32x256x5, .f32⟩
  | .hbm, ⟨36, _⟩ => ⟨S8x32x5x512, .f32⟩
  | .hbm, ⟨37, _⟩ => ⟨S_, .f32⟩
  | .hbm, ⟨38, _⟩ => ⟨S8x32x5, .f32⟩
  | .hbm, ⟨39, _⟩ => ⟨S_, .f32⟩
  | .hbm, ⟨40, _⟩ => ⟨S8x32x5, .f32⟩
  | .hbm, ⟨41, _⟩ => ⟨S8x32x5, .i1⟩
  | .hbm, ⟨42, _⟩ => ⟨S_, .f32⟩
  | .hbm, ⟨43, _⟩ => ⟨S8x32x5, .f32⟩
  | .hbm, ⟨44, _⟩ => ⟨S8x32x5, .f32⟩
  | .hbm, ⟨45, _⟩ => ⟨S8x32x5x1, .f32⟩
  | .hbm, ⟨46, _⟩ => ⟨S8x32x5x512, .f32⟩
  | .hbm, ⟨47, _⟩ => ⟨S8x32x5x512, .f32⟩
  | .hbm, ⟨48, _⟩ => ⟨S_, .i32⟩
  | .hbm, ⟨49, _⟩ => ⟨S8x512, .i32⟩
  | .hbm, ⟨50, _⟩ => ⟨S8x512, .i1⟩
  | .hbm, ⟨51, _⟩ => ⟨S8x512, .f32⟩
  | .hbm, ⟨52, _⟩ => ⟨S8x512, .f32⟩
  | .hbm, ⟨53, _⟩ => ⟨S_, .f32⟩
  | .hbm, ⟨54, _⟩ => ⟨S8, .f32⟩
  | .hbm, ⟨55, _⟩ => ⟨S_, .f32⟩
  | .hbm, ⟨56, _⟩ => ⟨S8, .f32⟩
  | .hbm, ⟨57, _⟩ => ⟨S8, .i1⟩
  | .hbm, ⟨58, _⟩ => ⟨S_, .f32⟩
  | .hbm, ⟨59, _⟩ => ⟨S8, .f32⟩
  | .hbm, ⟨60, _⟩ => ⟨S8, .f32⟩
  | .hbm, ⟨61, _⟩ => ⟨S8x1, .f32⟩
  | .hbm, ⟨62, _⟩ => ⟨S8x512, .f32⟩
  | .hbm, ⟨63, _⟩ => ⟨S8x512, .f32⟩
  | .hbm, ⟨64, _⟩ => ⟨S_, .i32⟩
  | .hbm, ⟨65, _⟩ => ⟨S8x32x256, .i32⟩
  | .hbm, ⟨66, _⟩ => ⟨S8x32x256, .i1⟩
  | .hbm, ⟨67, _⟩ => ⟨S8x32x256, .f32⟩
  | .hbm, ⟨68, _⟩ => ⟨S8x32x512, .f32⟩
  | .hbm, ⟨69, _⟩ => ⟨S_, .f32⟩
  | .hbm, ⟨70, _⟩ => ⟨S8x32, .f32⟩
  | .hbm, ⟨71, _⟩ => ⟨S_, .f32⟩
  | .hbm, ⟨72, _⟩ => ⟨S8x32, .f32⟩
  | .hbm, ⟨73, _⟩ => ⟨S8x32, .i1⟩
  | .hbm, ⟨74, _⟩ => ⟨S_, .f32⟩
  | .hbm, ⟨75, _⟩ => ⟨S8x32, .f32⟩
  | .hbm, ⟨76, _⟩ => ⟨S8x32, .f32⟩
  | .hbm, ⟨77, _⟩ => ⟨S8x32x1, .f32⟩
  | .hbm, ⟨78, _⟩ => ⟨S8x32x512, .f32⟩
  | .hbm, ⟨79, _⟩ => ⟨S8x32x512, .f32⟩
  | _, _ => ⟨S8x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_call0_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_call1_v0 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_call2_v0 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_10 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_11 : Ref sig .tc := ⟨.hbm, 69, rfl⟩
abbrev main_v49 : Ref sig .tc := ⟨.hbm, 70, rfl⟩
abbrev main_cst_12 : Ref sig .tc := ⟨.hbm, 71, rfl⟩
abbrev main_v50 : Ref sig .tc := ⟨.hbm, 72, rfl⟩
abbrev main_v51 : Ref sig .tc := ⟨.hbm, 73, rfl⟩
abbrev main_cst_13 : Ref sig .tc := ⟨.hbm, 74, rfl⟩
abbrev main_call3_v0 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩

abbrev nD : Nat := 1
abbrev τ : Topo := Topo.v7x

variable {F : FTy → Type} [FloatOps F]
-- ==== Proof.Rows.lean ====
/- The kernel body's run at a grid point, its outputs named: on whole staging memrefs the body leaves in the reference
   windows the row results of every row it holds, and at the first point only the target windows' results. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pointwise

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rows of the blocks -/

/-- Row `k` of a block of 32 rows of labels. -/
abbrev refFuncRow (k : Nat) (hk : k < 32) : Rect S1x32x256 :=
  Rect.unit (s := S1x32x256) ![0, k, 0] S1x1x256.size (fun a => by fin_cases a <;> simp [S1x1x256, S1x32x256] <;> omega)
/-- Row `k` of a block of 32 rows of states. -/
abbrev refStateRow (k : Nat) (hk : k < 32) : Rect S1x32x256x512 :=
  Rect.unit (s := S1x32x256x512) ![0, k, 0, 0] S1x1x256x512.size
    (fun a => by fin_cases a <;> simp [S1x1x256x512, S1x32x256x512] <;> omega)
/-- Row `k` of the eight rows of target labels. -/
abbrev tarFuncRow (k : Nat) (hk : k < 8) : Rect S8x512 :=
  Rect.unit (s := S8x512) ![k, 0] S1x512.size (fun a => by fin_cases a <;> simp [S1x512, S8x512] <;> omega)
/-- Row `k` of the eight rows of target states. -/
abbrev tarStateRow (k : Nat) (hk : k < 8) : Rect S8x512x512 :=
  Rect.unit (s := S8x512x512) ![k, 0, 0] S1x512x512.size (fun a => by fin_cases a <;> simp [S1x512x512, S8x512x512] <;> omega)

/-- Row `k` of a block of the label means. -/
abbrev refLabelsRow (k : Nat) (hk : k < 32) : Rect S1x5x32x512 :=
  Rect.unit (s := S1x5x32x512) ![0, 0, k, 0] S1x5x1x512.size
    (fun a => by fin_cases a <;> simp [S1x5x1x512, S1x5x32x512] <;> omega)
/-- Row `k` of a block of the whole-row means. -/
abbrev refPaperRow (k : Nat) (hk : k < 32) : Rect S1x1x32x512 :=
  Rect.unit (s := S1x1x32x512) ![0, 0, k, 0] S1x1x1x512.size
    (fun a => by fin_cases a <;> simp [S1x1x1x512, S1x1x32x512] <;> omega)
/-- Row `k` of the target rows' label means. -/
abbrev tarLabelsRow (k : Nat) (hk : k < 8) : Rect S5x8x512 :=
  Rect.unit (s := S5x8x512) ![0, k, 0] S5x1x512.size (fun a => by fin_cases a <;> simp [S5x1x512, S5x8x512] <;> omega)
/-- Row `k` of the target rows' whole-row means. -/
abbrev tarPaperRow (k : Nat) (hk : k < 8) : Rect S1x8x512 :=
  Rect.unit (s := S1x8x512) ![0, k, 0] S1x1x512.size (fun a => by fin_cases a <;> simp [S1x1x512, S1x8x512] <;> omega)

/-! ## What the body leaves in the output blocks -/

/-- The means of row `k` of a block of 32: the five labels', then the whole row's, in a block of eight. -/
def refRow (x0 : Vec F S1x32x256 .i32) (x1 : Vec F S1x32x256x512 .f32) (k : Nat) (hk : k < 32) : FVec F S8x512 .f32 :=
  k0_pay43 (View.ld x0 (refFuncRow k hk)) (View.ld x1 (refStateRow k hk))

/-- The label means of a block of 32 rows. -/
def refLabels (x0 : Vec F S1x32x256 .i32) (x1 : Vec F S1x32x256x512 .f32) : Vec F S1x5x32x512 .f32 := fun y =>
  refRow x0 x1 (y 2).val (y 2).isLt (ix2 ((y 1).castLE (by decide)) (y 3))

/-- The whole-row means of a block of 32 rows. -/
def refPaper (x0 : Vec F S1x32x256 .i32) (x1 : Vec F S1x32x256x512 .f32) : Vec F S1x1x32x512 .f32 := fun y =>
  refRow x0 x1 (y 2).val (y 2).isLt (ix2 5 (y 3))

/-- The means of target row `k`. -/
def tarRow (x2 : Vec F S8x512 .i32) (x3 : Vec F S8x512x512 .f32) (k : Nat) (hk : k < 8) : FVec F S8x512 .f32 :=
  k0_pay7 (View.ld x2 (tarFuncRow k hk)) (View.ld x3 (tarStateRow k hk))

/-- The label means of the eight target rows. -/
def tarLabels (x2 : Vec F S8x512 .i32) (x3 : Vec F S8x512x512 .f32) : Vec F S5x8x512 .f32 := fun y =>
  tarRow x2 x3 (y 1).val (y 1).isLt (ix2 ((y 0).castLE (by decide)) (y 2))

/-- The whole-row means of the eight target rows. -/
def tarPaper (x2 : Vec F S8x512 .i32) (x3 : Vec F S8x512x512 .f32) : Vec F S1x8x512 .f32 := fun y =>
  tarRow x2 x3 (y 1).val (y 1).isLt (ix2 5 (y 2))

/-! ## Each store is its row of the block -/

theorem refRow_congr (x0 : Vec F S1x32x256 .i32) (x1 : Vec F S1x32x256x512 .f32) {k k' : Nat} (hk : k < 32) (hk' : k' < 32)
    (e : k = k') {a a' : Fin 8} (ea : a.val = a'.val) {b b' : Fin 512} (eb : b.val = b'.val) :
    refRow x0 x1 k hk (ix2 a b) = refRow x0 x1 k' hk' (ix2 a' b') := by
  subst e; obtain rfl := Fin.ext ea; obtain rfl := Fin.ext eb; rfl

theorem tarRow_congr (x2 : Vec F S8x512 .i32) (x3 : Vec F S8x512x512 .f32) {k k' : Nat} (hk : k < 8) (hk' : k' < 8)
    (e : k = k') {a a' : Fin 8} (ea : a.val = a'.val) {b b' : Fin 512} (eb : b.val = b'.val) :
    tarRow x2 x3 k hk (ix2 a b) = tarRow x2 x3 k' hk' (ix2 a' b') := by
  subst e; obtain rfl := Fin.ext ea; obtain rfl := Fin.ext eb; rfl

theorem refLabels_piece (x0 : Vec F S1x32x256 .i32) (x1 : Vec F S1x32x256x512 .f32) (k : Nat) (hk : k < 32)
    (x : (refLabelsRow k hk).shape.Idx) :
    k0_pay44 (View.ld x0 (refFuncRow k hk)) (View.ld x1 (refStateRow k hk)) x
      = refLabels x0 x1 ((refLabelsRow k hk).emb x) := by
  unfold refLabels k0_pay44
  pointwise
  refine refRow_congr x0 x1 hk _ ?_ ?_ ?_
  · show k = k + 1 * (x 2).val
    have : (x 2).val < 1 := (x 2).isLt
    omega
  · show (x 1).val = 0 + 1 * (x 1).val
    omega
  · show (x 3).val = 0 + 1 * (x 3).val
    omega

theorem refPaper_piece (x0 : Vec F S1x32x256 .i32) (x1 : Vec F S1x32x256x512 .f32) (k : Nat) (hk : k < 32)
    (x : (refPaperRow k hk).shape.Idx) :
    k0_pay45 (k0_pay43 (View.ld x0 (refFuncRow k hk)) (View.ld x1 (refStateRow k hk))) x
      = refPaper x0 x1 ((refPaperRow k hk).emb x) := by
  unfold refPaper k0_pay45
  pointwise
  refine refRow_congr x0 x1 hk _ ?_ rfl ?_
  · show k = k + 1 * (x 2).val
    have : (x 2).val < 1 := (x 2).isLt
    omega
  · show (x 3).val = 0 + 1 * (x 3).val
    omega

theorem tarLabels_piece (x2 : Vec F S8x512 .i32) (x3 : Vec F S8x512x512 .f32) (k : Nat) (hk : k < 8)
    (x : (tarLabelsRow k hk).shape.Idx) :
    k0_pay8 (View.ld x2 (tarFuncRow k hk)) (View.ld x3 (tarStateRow k hk)) x
      = tarLabels x2 x3 ((tarLabelsRow k hk).emb x) := by
  unfold tarLabels k0_pay8
  pointwise
  refine tarRow_congr x2 x3 hk _ ?_ ?_ ?_
  · show k = k + 1 * (x 1).val
    have : (x 1).val < 1 := (x 1).isLt
    omega
  · show (x 0).val = 0 + 1 * (x 0).val
    omega
  · show (x 2).val = 0 + 1 * (x 2).val
    omega

theorem tarPaper_piece (x2 : Vec F S8x512 .i32) (x3 : Vec F S8x512x512 .f32) (k : Nat) (hk : k < 8)
    (x : (tarPaperRow k hk).shape.Idx) :
    k0_pay10 (k0_pay9 (View.ld x2 (tarFuncRow k hk)) (View.ld x3 (tarStateRow k hk))) x
      = tarPaper x2 x3 ((tarPaperRow k hk).emb x) := by
  unfold tarPaper k0_pay10 k0_pay9
  pointwise
  refine tarRow_congr x2 x3 hk _ ?_ rfl ?_
  · show k = k + 1 * (x 1).val
    have : (x 1).val < 1 := (x 1).isLt
    omega
  · show (x 2).val = 0 + 1 * (x 2).val
    omega

end Cert.Proof

end
-- ==== Proof.Body.lean ====
/- The kernel body's run at a grid point, its outputs named: on whole staging memrefs the body leaves in the reference
   windows the row results of every row it holds, and at the first point only the target windows' results. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Rows

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1556000 in
/-- The body at a later point: it writes the 32 rows' means of the block and keeps the target outputs as they are. -/
theorem runB (c : Dev nD) (i : grid0.Coords) (arg1 : Memref sig .tc .vmem S1x32x256 .i32) (harg1 : arg1.IsWhole) (arg2 : Memref sig .tc .vmem S1x32x256x512 .f32) (harg2 : arg2.IsWhole) (arg3 : Memref sig .tc .vmem S8x512 .i32) (harg3 : arg3.IsWhole) (arg4 : Memref sig .tc .vmem S8x512x512 .f32) (harg4 : arg4.IsWhole) (arg5 : Memref sig .tc .vmem S1x5x32x512 .f32) (harg5 : arg5.IsWhole) (arg6 : Memref sig .tc .vmem S1x1x32x512 .f32) (harg6 : arg6.IsWhole) (arg7 : Memref sig .tc .vmem S5x8x512 .f32) (harg7 : arg7.IsWhole) (arg8 : Memref sig .tc .vmem S1x8x512 .f32) (harg8 : arg8.IsWhole)
    (hc0 : ¬ k0_cond1 i = 1#1)
    (x0 : Vec F S1x32x256 .i32) (x1 : Vec F S1x32x256x512 .f32) (x2 : Vec F S8x512 .i32) (x3 : Vec F S8x512x512 .f32)
    (x6 : Vec F S5x8x512 .f32) (x7 : Vec F S1x8x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare x6 ∗ owns (c : Thread nD τ) arg8 fullShare x7
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (refLabels x0 x1) ∗ owns (c : Thread nD τ) arg6 fullShare (refPaper x0 x1) ∗ owns (c : Thread nD τ) arg7 fullShare x6 ∗ owns (c : Thread nD τ) arg8 fullShare x7) -∗ K ⟨⟩))
      ⊢ wp frame (wpE (defs₀ (F := F)) Variants.none c none) E (cc0_segmean_all i arg1 harg1 arg2 harg2 arg3 harg3 arg4 harg4 arg5 harg5 arg6 harg6 arg7 harg7 arg8 harg8) K := by
  simp only [cc0_segmean_all_eq_skeleton]; unfold cc0_segmean_all_skel
  simp only [k0_part45_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
  obtain rfl := harg1.eq_unread hf0; obtain rfl := harg2.eq_unread hf1; obtain rfl := harg3.eq_unread hf2; obtain rfl := harg4.eq_unread hf3
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    sl_unfold_words
    simp only [View.readAt_eq_ld, harg1.read_unread, harg2.read_unread, harg3.read_unread, harg4.read_unread]
    refine funext fun y => View.read_writes_apply_of_pieces _ _ (refLabels x0 x1) _ ?_ y (View.cover_of_tiled (s := S1x5x32x512) _ (S1x5x1x512 : Shape).size (by rfl) y)
    repeat' refine List.forall_mem_cons.mpr ⟨fun x => refLabels_piece x0 x1 _ (by decide) x, ?_⟩
    exact List.forall_mem_nil _
  isplitl [H5]
  · iexists _; isplitr; swap; · iexact H5
    ipureintro
    sl_unfold_words
    simp only [View.readAt_eq_ld, harg1.read_unread, harg2.read_unread, harg3.read_unread, harg4.read_unread]
    refine funext fun y => View.read_writes_apply_of_pieces _ _ (refPaper x0 x1) _ ?_ y (View.cover_of_tiled (s := S1x1x32x512) _ (S1x1x1x512 : Shape).size (by rfl) y)
    repeat' refine List.forall_mem_cons.mpr ⟨fun x => refPaper_piece x0 x1 _ (by decide) x, ?_⟩
    exact List.forall_mem_nil _
  isplitl [H6]
  · iexists _; isplitr; swap; · iexact H6
    ipureintro; exact hf6
  iexists _; isplitr; swap; · iexact H7
  ipureintro; exact hf7

set_option maxHeartbeats 1556000 in
/-- The body at the first point: it writes the 32 rows' means of the block and the eight target rows' means. -/
theorem runA (c : Dev nD) (i : grid0.Coords) (arg1 : Memref sig .tc .vmem S1x32x256 .i32) (harg1 : arg1.IsWhole) (arg2 : Memref sig .tc .vmem S1x32x256x512 .f32) (harg2 : arg2.IsWhole) (arg3 : Memref sig .tc .vmem S8x512 .i32) (harg3 : arg3.IsWhole) (arg4 : Memref sig .tc .vmem S8x512x512 .f32) (harg4 : arg4.IsWhole) (arg5 : Memref sig .tc .vmem S1x5x32x512 .f32) (harg5 : arg5.IsWhole) (arg6 : Memref sig .tc .vmem S1x1x32x512 .f32) (harg6 : arg6.IsWhole) (arg7 : Memref sig .tc .vmem S5x8x512 .f32) (harg7 : arg7.IsWhole) (arg8 : Memref sig .tc .vmem S1x8x512 .f32) (harg8 : arg8.IsWhole)
    (hc0 : k0_cond1 i = 1#1)
    (x0 : Vec F S1x32x256 .i32) (x1 : Vec F S1x32x256x512 .f32) (x2 : Vec F S8x512 .i32) (x3 : Vec F S8x512x512 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (refLabels x0 x1) ∗ owns (c : Thread nD τ) arg6 fullShare (refPaper x0 x1) ∗ owns (c : Thread nD τ) arg7 fullShare (tarLabels x2 x3) ∗ owns (c : Thread nD τ) arg8 fullShare (tarPaper x2 x3)) -∗ K ⟨⟩))
      ⊢ wp frame (wpE (defs₀ (F := F)) Variants.none c none) E (cc0_segmean_all i arg1 harg1 arg2 harg2 arg3 harg3 arg4 harg4 arg5 harg5 arg6 harg6 arg7 harg7 arg8 harg8) K := by
  simp only [cc0_segmean_all_eq_skeleton]; unfold cc0_segmean_all_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part45_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  obtain rfl := harg1.eq_unread hf0; obtain rfl := harg2.eq_unread hf1; obtain rfl := harg3.eq_unread hf2; obtain rfl := harg4.eq_unread hf3
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; · iexact H4
    ipureintro
    sl_unfold_words
    simp only [View.readAt_eq_ld, harg1.read_unread, harg2.read_unread, harg3.read_unread, harg4.read_unread]
    refine funext fun y => View.read_writes_apply_of_pieces _ _ (refLabels x0 x1) _ ?_ y (View.cover_of_tiled (s := S1x5x32x512) _ (S1x5x1x512 : Shape).size (by rfl) y)
    repeat' refine List.forall_mem_cons.mpr ⟨fun x => refLabels_piece x0 x1 _ (by decide) x, ?_⟩
    exact List.forall_mem_nil _
  isplitl [H5]
  · iexists _; isplitr; swap; · iexact H5
    ipureintro
    sl_unfold_words
    simp only [View.readAt_eq_ld, harg1.read_unread, harg2.read_unread, harg3.read_unread, harg4.read_unread]
    refine funext fun y => View.read_writes_apply_of_pieces _ _ (refPaper x0 x1) _ ?_ y (View.cover_of_tiled (s := S1x1x32x512) _ (S1x1x1x512 : Shape).size (by rfl) y)
    repeat' refine List.forall_mem_cons.mpr ⟨fun x => refPaper_piece x0 x1 _ (by decide) x, ?_⟩
    exact List.forall_mem_nil _
  isplitl [H6]
  · iexists _; isplitr; swap; · iexact H6
    ipureintro
    sl_unfold_words
    simp only [View.readAt_eq_ld, harg1.read_unread, harg2.read_unread, harg3.read_unread, harg4.read_unread]
    refine funext fun y => View.read_writes_apply_of_pieces _ _ (tarLabels x2 x3) _ ?_ y (View.cover_of_tiled (s := S5x8x512) _ (S5x1x512 : Shape).size (by rfl) y)
    repeat' refine List.forall_mem_cons.mpr ⟨fun x => tarLabels_piece x2 x3 _ (by decide) x, ?_⟩
    exact List.forall_mem_nil _
  iexists _; isplitr; swap; · iexact H7
  · ipureintro
    sl_unfold_words
    simp only [View.readAt_eq_ld, harg1.read_unread, harg2.read_unread, harg3.read_unread, harg4.read_unread]
    refine funext fun y => View.read_writes_apply_of_pieces _ _ (tarPaper x2 x3) _ ?_ y (View.cover_of_tiled (s := S1x8x512) _ (S1x1x512 : Shape).size (by rfl) y)
    repeat' refine List.forall_mem_cons.mpr ⟨fun x => tarPaper_piece x2 x3 _ (by decide) x, ?_⟩
    exact List.forall_mem_nil _

end Cert.Proof

end
-- ==== Proof.Run.lean ====
/- The kernel's run: the pipeline's proof data with every output named, the body's obligation at a grid point from the
   body's two runs, the launch, and from it the frame claim of the kernel. The target windows are stored at the first
   point only and written back after the last: in between their buffers keep what the first point left. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import proofs.«01_k».proof.Proof.Body
public import Idealize.ShloMosaic.Lib.Pipeline.TableIdle
public import Idealize.ShloMosaic.Lib.Claim

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's closed forms -/

/-- The first point. -/
abbrev t₀ : Fin cfg0.N := ⟨0, by decide⟩

/-- The body's condition holds at the first point only. -/
theorem first_point : ∀ t : Fin cfg0.N, k0_cond1 (grid0.coords t) = 1#1 ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [k0_cond1, e0]
    word_cmp : ∀ t : Fin grid0.N, k0_cond1 (grid0.coords t) = 1#1 ↔ t.val % 8 = 0)

theorem idle_6 (t : Fin cfg0.N) : cfg0.idle 6 (grid0.coords t) = !(k0_cond1 (grid0.coords t) == 1#1) := rfl
theorem idle_7 (t : Fin cfg0.N) : cfg0.idle 7 (grid0.coords t) = !(k0_cond1 (grid0.coords t) == 1#1) := rfl

theorem not_fresh (w : Fin 8) (hw : w = 6 ∨ w = 7) (t : Fin cfg0.N) (ht : t.val ≠ 0) : cfg0.fresh w t.val = false := by
  have hN : t.val < 8 := lt_of_lt_of_eq t.isLt (show cfg0.N = 8 from N_0)
  have key := cfg0.fresh_tab w (fun n => n == 0 || n == 8) rfl (fun s => by
    have hs : s.val < 8 := lt_of_lt_of_eq s.isLt (show cfg0.N = 8 from N_0)
    have hc := first_point s
    have hfl : (cfg0.win w).flush s = decide (s.val % 8 = 7) := by
      rcases hw with rfl | rfl
      · rw [Bool.eq_iff_iff, decide_eq_true_iff]; exact flush0_6 s
      · rw [Bool.eq_iff_iff, decide_eq_true_iff]; exact flush0_7 s
    have hid : cfg0.idle w (cfg0.grid.coords s) = !decide (s.val % 8 = 0) := by
      have : (k0_cond1 (grid0.coords s) == 1#1) = decide (s.val % 8 = 0) := by
        rw [Bool.eq_iff_iff, decide_eq_true_iff, beq_iff_eq]; exact hc
      rcases hw with rfl | rfl
      · exact (idle_6 s).trans (congrArg _ this)
      · exact (idle_7 s).trans (congrArg _ this)
    rw [hfl, hid, Bool.eq_iff_iff]
    simp only [Bool.or_eq_true, Bool.and_eq_true, Bool.not_eq_true', decide_eq_true_iff, decide_eq_false_iff_not, beq_iff_eq]
    omega) t.val (Nat.le_of_lt t.isLt)
  rw [key]
  simp only [Bool.or_eq_false_iff, beq_eq_false_iff_ne]
  omega

/-! ## The proof data -/

/-- What the eight target rows' windows hold from the first point on. -/
def tarLabelsOf (c : Dev nD) : Vec F S5x8x512 .f32 := tarLabels (iblk m c 2 t₀) (iblk m c 3 t₀)
def tarPaperOf (c : Dev nD) : Vec F S1x8x512 .f32 := tarPaper (iblk m c 2 t₀) (iblk m c 3 t₀)
/-- What the reference rows' windows hold after point `t`. -/
def refLabelsOf (c : Dev nD) (t : Fin cfg0.N) : Vec F S1x5x32x512 .f32 := refLabels (iblk m c 0 t) (iblk m c 1 t)
def refPaperOf (c : Dev nD) (t : Fin cfg0.N) : Vec F S1x1x32x512 .f32 := refPaper (iblk m c 0 t) (iblk m c 1 t)

/-- The proof data of the one pipeline: the arrays as the region finds them, each input's block in place, each output's
    block as the body's runs state it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => refLabelsOf m c t
    | ⟨5, _⟩ => refPaperOf m c t
    | ⟨6, _⟩ => tarLabelsOf m c
    | ⟨7, _⟩ => tarPaperOf m c
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = refLabelsOf m c t := by dsimp only [dats]
theorem after_5 (c : Dev nD) (t : Fin cfg0.N) : (dats m 0 c).after 5 t = refPaperOf m c t := by dsimp only [dats]
theorem after_6 (c : Dev nD) (t : Fin cfg0.N) : (dats m 0 c).after 6 t = tarLabelsOf m c := by dsimp only [dats]
theorem after_7 (c : Dev nD) (t : Fin cfg0.N) : (dats m 0 c).after 7 t = tarPaperOf m c := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- After the first point the target windows' buffers hold what it left. -/
theorem before_6 (c : Dev nD) (t : Fin cfg0.N) (ht : t.val ≠ 0) (d) : (dats m 0 c).before 6 t d = tarLabelsOf m c :=
  ((dats m 0 c).before_out_traj 6 rfl (fun _ _ => rfl) (fun s _ _ _ => (after_6 m c s).trans (after_6 m c _).symm) t.val t rfl d).trans
    ((if_neg (by rw [not_fresh 6 (.inl rfl) t ht]; exact Bool.false_ne_true)).trans (after_6 m c _))
theorem before_7 (c : Dev nD) (t : Fin cfg0.N) (ht : t.val ≠ 0) (d) : (dats m 0 c).before 7 t d = tarPaperOf m c :=
  ((dats m 0 c).before_out_traj 7 rfl (fun _ _ => rfl) (fun s _ _ _ => (after_7 m c s).trans (after_7 m c _).symm) t.val t rfl d).trans
    ((if_neg (by rw [not_fresh 7 (.inr rfl) t ht]; exact Bool.false_ne_true)).trans (after_7 m c _))

/-! ## What the body hands back, window by window -/

theorem leaves_live {c : Dev nD} (w : Fin cfg0.W) (t : Fin cfg0.N) (hi : cfg0.idle w (cfg0.grid.coords t) = false) :
    (dats m 0 c).leavesExact w t
      = owns (c : Thread nD τ) ((cfg0.win w).stage (cfg0.slots t w)) fullShare ((dats m 0 c).after w t) := by
  unfold Dat.leavesExact; rw [hi]

/-- An idle window whose buffer already holds what is to be written back may be handed back as it was found. -/
theorem leaves_of_idle {c : Dev nD} (w : Fin cfg0.W) (t : Fin cfg0.N) (hi : cfg0.idle w (cfg0.grid.coords t) = true) (d)
    (hb : (dats m 0 c).before w t d = (dats m 0 c).after w t) :
    owns (c : Thread nD τ) ((cfg0.win w).stage (cfg0.slots t w)) fullShare ((dats m 0 c).after w t)
      ⊢ (dats m 0 c).leavesExact w t := by
  unfold Dat.leavesExact
  rw [hi]
  cases (cfg0.win w).flush t
  · iintro H
    iexists d
    rw [hb]
    iexact H
  · exact .rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1600000 in
/-- The body at any point: at the first its run with the condition, at the others its run without. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    leaves_live m 0 t rfl, leaves_live m 1 t rfl, leaves_live m 2 t rfl, leaves_live m 3 t rfl, leaves_live m 4 t rfl,
    leaves_live m 5 t rfl, after_0, after_1, after_2, after_3, after_4, after_5]
  have hN : t.val < 8 := lt_of_lt_of_eq t.isLt (show cfg0.N = 8 from N_0)
  by_cases h0 : t.val % 8 = 0
  · obtain rfl : t = t₀ := Fin.ext (by show t.val = 0; omega)
    have hc := (first_point t₀).mpr h0
    rw [leaves_live m 6 t₀ ((idle_6 t₀).trans (by rw [hc]; rfl)), leaves_live m 7 t₀ ((idle_7 t₀).trans (by rw [hc]; rfl)),
      after_6, after_7]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA c (grid0.coords t₀) _ _ _ _ _ _ _ _ _ _ _ _ _ _ _ _ hc (iblk m c 0 t₀) (iblk m c 1 t₀) (iblk m c 2 t₀) (iblk m c 3 t₀)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hc : ¬ k0_cond1 (grid0.coords t) = 1#1 := fun h => h0 ((first_point t).mp h)
    have ht : t.val ≠ 0 := by omega
    have hi6 : cfg0.idle 6 (cfg0.grid.coords t) = true := (idle_6 t).trans (by rw [beq_eq_false_iff_ne.mpr hc]; rfl)
    have hi7 : cfg0.idle 7 (cfg0.grid.coords t) = true := (idle_7 t).trans (by rw [beq_eq_false_iff_ne.mpr hc]; rfl)
    simp only [before_6 m c t ht, before_7 m c t ht]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB c (grid0.coords t) _ _ _ _ _ _ _ _ _ _ _ _ _ _ _ _ hc (iblk m c 0 t) (iblk m c 1 t) (iblk m c 2 t) (iblk m c 3 t) (tarLabelsOf m c) (tarPaperOf m c)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iapply (leaves_of_idle m 6 t hi6 d6 ((before_6 m c t ht d6).trans (after_6 m c t).symm))
      rw [after_6]
      iexact H6
    · iapply (leaves_of_idle m 7 t hi7 d7 ((before_7 m c t ht d7).trans (after_7 m c t).symm))
      rw [after_7]
      iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option backward.isDefEq.respectTransparency.types false in
set_option maxHeartbeats 800000 in
theorem launched : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem ran : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (launched m ρ)

/-- The frame claim at any float interpretation. -/
theorem kernel_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (ran m ρ)) ((θ_run defs _ _).mono (fun _ h => h.2) (launched m ρ))

end Cert.Proof

end
-- ==== Proof.Same.lean ====
/- The kernel's program is its idealization's, word for word, at any float interpretation: the frame of one is the
   frame of the other. -/
module

public import proofs.«01_k».proof.Defs
public import proofs.«01_k».proof.Proof.Gen.Kernel
public import proofs.«01_k».proof.Proof.Run

@[expose] public section

noncomputable section

namespace Cert.Proof

open Idealize.ShloMosaic Idealize.ShloMosaic.TcCoe Idealize.SL.Sem

variable {F : FTy → Type} [FloatOps F]

/-- The two bodies are one. -/
theorem body_same : @Cert.Kernel.cc0_segmean_all F _ _ = @Cert.KernelIdeal.cc0_segmean_all F _ _ := rfl

/-- The two tables of bodies are one. -/
theorem defs₀_same : Cert.Kernel.defs₀ (F := F) = Cert.KernelIdeal.defs₀ (F := F) := by
  unfold Cert.Kernel.defs₀ Cert.KernelIdeal.defs₀
  refine congrArg Defs.onTc (funext fun l => funext fun x => ?_)
  match l, x with
  | 0, (t, s) => rfl

/-- The two programs' pipelines and bodies are the same. -/
theorem defs_same : Cert.Kernel.defs (F := F) = Cert.KernelIdeal.defs (F := F) :=
  congrArg (Pipeline.defs Cert.KernelIdeal.pcfgs) defs₀_same

set_option maxHeartbeats 1600000 in
/-- The two mains are the same. -/
theorem main_same : Cert.Kernel.main (F := F) = Cert.KernelIdeal.main (F := F) := by
  unfold Cert.Kernel.main Cert.KernelIdeal.main
  rfl

/-- A run of one program is a run of an equal one. -/
theorem run_of_eq {nD : ℕ} {τ : Topo} {sig : RefSig} {Val : EltTy → Type} {Λ : Labels} {d d' : Defs nD τ sig Val Λ}
    {p p' : Dev nD → Prog (TpuEff nD τ sig Val Λ .tc) PUnit} (hd : d = d') (hp : p = p') {s : MemSt nD τ sig Val}
    {Q : PUnit × MemSt nD τ sig Val → Prop} (h : θ_run d' (onTc p') s Q) : θ_run d (onTc p) s Q := by
  subst hd hp; exact h

/-- The kernel's frame. -/
theorem kernel_quiescent : Cert.quiescent_Kernel := fun m ρ _ =>
  run_of_eq defs_same main_same (kernel_frame (F := Bits) m ρ)

end Cert.Proof

end
-- ==== Proof.Means.lean ====
/- The mathematics both programs compute, at the ideal numbers: the mean of some values over the places where a bit is
   set (over a large number when it is set nowhere), whether such a place exists, and the two facts that make the
   kernel's way the reference's: dividing by the denominator is multiplying by its reciprocal, and a group of labels
   gathered into the bits of one word says which labels occur. -/
module

public import Idealize.ShloMosaic.Lib.Pointwise
public import Idealize.ShloMosaic.Lib.Affine

@[expose] public section

noncomputable section

namespace Cert.Proof.Means

open Idealize.ShloMosaic

/-! ## The masked mean -/

/-- A bit as a number. -/
def bitVal (b : BitVec 1) : EReal := Scalar.select b 1 0

/-- How many of the bits are set. -/
def count {n : ℕ} (p : Fin n → BitVec 1) : EReal := ∑ k, bitVal (p k)

/-- Whether a bit is set anywhere. -/
def occurs {n : ℕ} (p : Fin n → BitVec 1) : BitVec 1 := Ideal.cmp .ogt (count p) 0

/-- What a mean divides by: the count, or a large number when it is zero. -/
def denom {n : ℕ} (p : Fin n → BitVec 1) : EReal :=
  Scalar.select (occurs p) (count p) (Ideal.ofBits .f32 0x51BA43B7#32)

/-- The mean of the values where the bit is set. -/
def mean {n : ℕ} (p : Fin n → BitVec 1) (x : Fin n → EReal) : EReal :=
  Ideal.div (∑ k, bitVal (p k) * x k) (denom p)

/-- The bit of "this label is label number `r + 1`". -/
def labelBit (f : BitVec 32) (r : ℕ) : BitVec 1 := IntOp.cmpi .eq f (BitVec.ofNat 32 (r + 1))

/-- The bit of "this label is not the padding label". -/
def nonpad (f : BitVec 32) : BitVec 1 := IntOp.cmpi .ne f 0#32

theorem bitVal_zero : bitVal 0#1 = 0 := rfl
theorem bitVal_one : bitVal 1#1 = 1 := rfl

theorem bitVal_nonneg (b : BitVec 1) : 0 ≤ bitVal b := by
  rcases BitVec.eq_zero_or_eq_one b with rfl | rfl
  · exact le_of_eq bitVal_zero.symm
  · rw [bitVal_one]; exact zero_le_one

/-- A bit converted to a float is its number. -/
theorem uitofp_eq_bitVal (b : BitVec 1) : (FloatOps.uitofp .f32 b : Ideal .f32) = bitVal b := by
  show ((b.toNat : ℝ) : EReal) = bitVal b
  rcases BitVec.eq_zero_or_eq_one b with rfl | rfl
  · simp [bitVal_zero]
  · simp [bitVal_one]

theorem large_ne_zero : Ideal.ofBits .f32 0x51BA43B7#32 ≠ 0 := by
  simp [Ideal.ofBits, Ideal.ieee, -EReal.coe_mul]

theorem occurs_eq_one_iff_pos {n : ℕ} (p : Fin n → BitVec 1) : occurs p = 1#1 ↔ 0 < count p := by
  unfold occurs Ideal.cmp
  by_cases h : 0 < count p <;> simp [h]

theorem denom_ne_zero {n : ℕ} (p : Fin n → BitVec 1) : denom p ≠ 0 := by
  unfold denom Scalar.select
  split
  · next h => exact ((occurs_eq_one_iff_pos p).mp h).ne'
  · exact large_ne_zero

/-- Multiplying the sum by the denominator's reciprocal is the mean. -/
theorem sum_mul_reciprocal {n : ℕ} (p : Fin n → BitVec 1) (x : Fin n → EReal) :
    (∑ k, bitVal (p k) * x k) * Ideal.div 1 (denom p) = mean p x := by
  simp [mean, Ideal.div, denom_ne_zero]

/-- A bit is set somewhere exactly when the count is positive. -/
theorem occurs_eq_one_iff {n : ℕ} (p : Fin n → BitVec 1) : occurs p = 1#1 ↔ ∃ k, p k = 1#1 := by
  rw [occurs_eq_one_iff_pos]
  constructor
  · intro h
    by_contra hn
    have : count p = 0 := Finset.sum_eq_zero fun k _ => by
      rcases BitVec.eq_zero_or_eq_one (p k) with h0 | h1
      · rw [h0, bitVal_zero]
      · exact absurd ⟨k, h1⟩ hn
    exact absurd h (by rw [this]; exact lt_irrefl _)
  · rintro ⟨k, hk⟩
    calc (0 : EReal) < 1 := zero_lt_one
      _ = bitVal (p k) := by rw [hk, bitVal_one]
      _ ≤ count p := Finset.single_le_sum (fun i _ => bitVal_nonneg (p i)) (Finset.mem_univ k)

/-! ## The labels gathered into bits -/

instance : Std.Commutative (IntOp.ori : BitVec 32 → BitVec 32 → BitVec 32) := ⟨BitVec.or_comm⟩
instance : Std.Associative (IntOp.ori : BitVec 32 → BitVec 32 → BitVec 32) := ⟨BitVec.or_assoc⟩

/-- The word whose bits are the labels of a group. -/
def gathered {n : ℕ} (f : Fin n → BitVec 32) : BitVec 32 :=
  Finset.univ.fold IntOp.ori 0#32 fun k => IntOp.shli .host 1#32 (f k)

theorem getLsbD_fold {ι : Type*} (s : Finset ι) (g : ι → BitVec 32) (i : ℕ) :
    (s.fold IntOp.ori 0#32 g).getLsbD i = true ↔ ∃ k ∈ s, (g k).getLsbD i = true := by
  classical
  induction s using Finset.induction_on with
  | empty => simp
  | insert a s ha ih =>
    rw [Finset.fold_insert ha, IntOp.ori, BitVec.getLsbD_or, Bool.or_eq_true, ih]
    simp

theorem getLsbD_shift {f : BitVec 32} (hf : f.toNat ≤ 5) {i : ℕ} (hi : i < 32) :
    (IntOp.shli .host 1#32 f).getLsbD i = true ↔ f.toNat = i := by
  have h32 : f.toNat < 32 := by omega
  rw [IntOp.shli, if_pos h32, BitVec.shiftLeft_eq', BitVec.getLsbD_shiftLeft]
  by_cases h : f.toNat = i
  · subst h; simp [hi]
  · simp only [h, iff_false, hi, decide_true, Bool.true_and, BitVec.getLsbD_one]
    simp
    omega

/-- Bit `i` of the gathered word is set exactly when label `i` occurs. -/
theorem getLsbD_gathered {n : ℕ} {f : Fin n → BitVec 32} (hf : ∀ k, (f k).toNat ≤ 5) {i : ℕ} (hi : i < 32) :
    (gathered f).getLsbD i = true ↔ ∃ k, (f k).toNat = i := by
  rw [gathered, getLsbD_fold]
  simp only [Finset.mem_univ, true_and, getLsbD_shift (hf _) hi]

theorem labelBit_eq_one {f : BitVec 32} {r : ℕ} (hr : r < 5) : labelBit f r = 1#1 ↔ f.toNat = r + 1 := by
  rw [labelBit, IntOp.cmpi_eq, ← BitVec.toNat_inj, BitVec.toNat_ofNat, Nat.mod_eq_of_lt (by omega)]

theorem nonpad_eq_one {f : BitVec 32} : nonpad f = 1#1 ↔ f.toNat ≠ 0 := by
  rw [nonpad, IntOp.cmpi_ne, Ne, ← BitVec.toNat_inj]; rfl

theorem bit_ext {a b : BitVec 1} (h : a = 1#1 ↔ b = 1#1) : a = b := by
  rcases BitVec.eq_zero_or_eq_one a with rfl | rfl <;> rcases BitVec.eq_zero_or_eq_one b with rfl | rfl <;> simp_all

/-- The kernel's test of one bit of the gathered word: whether that label occurs. -/
theorem label_mask {n : ℕ} {f : Fin n → BitVec 32} (hf : ∀ k, (f k).toNat ≤ 5) {r : ℕ} (hr : r < 5) :
    IntOp.cmpi .ne (IntOp.andi (IntOp.shrsi .host (gathered f) (BitVec.ofNat 32 (r + 1))) 1#32) 0#32
      = occurs fun k => labelBit (f k) r := by
  apply bit_ext
  have h1 : (BitVec.ofNat 32 (r + 1)).toNat = r + 1 := by
    rw [BitVec.toNat_ofNat, Nat.mod_eq_of_lt (by omega)]
  rw [IntOp.cmpi_ne, occurs_eq_one_iff]
  simp only [labelBit_eq_one hr]
  rw [← getLsbD_gathered hf (i := r + 1) (by omega), IntOp.shrsi, if_pos (by omega), IntOp.andi,
    BitVec.sshiftRight_eq', h1]
  have hl := BitVec.getLsbD_eq_getElem (x := gathered f) (show r + 1 < 32 by omega)
  constructor
  · intro h
    by_contra hb
    apply h
    ext i hi
    rw [← BitVec.getLsbD_eq_getElem, BitVec.getLsbD_and, BitVec.getLsbD_one, BitVec.getLsbD_sshiftRight]
    by_cases h0 : i = 0
    · subst h0
      rw [hl, Bool.not_eq_true] at hb
      simp [hb, show r + 1 < 32 by omega]
    · simp [Ne.symm h0, h0]
  · intro h h0
    have := congrArg (fun w => w.getLsbD 0) h0
    rw [BitVec.getLsbD_and, BitVec.getLsbD_sshiftRight] at this
    rw [hl] at h
    simp [h, show r + 1 < 32 by omega] at this

theorem getLsbD_62 {i : ℕ} (hi : i < 32) : (62#32 : BitVec 32).getLsbD i = true ↔ 1 ≤ i ∧ i ≤ 5 := by
  revert i; decide

/-- The kernel's test of the gathered word's bits 1 to 5: whether a label other than padding occurs. -/
theorem nonpad_mask {n : ℕ} {f : Fin n → BitVec 32} (hf : ∀ k, (f k).toNat ≤ 5) :
    IntOp.cmpi .ne (IntOp.andi (gathered f) 62#32) 0#32 = occurs fun k => nonpad (f k) := by
  apply bit_ext
  rw [IntOp.cmpi_ne, occurs_eq_one_iff]
  simp only [nonpad_eq_one, IntOp.andi]
  constructor
  · intro h
    by_contra hb
    apply h
    ext i hi
    rw [← BitVec.getLsbD_eq_getElem, BitVec.getLsbD_and]
    simp only [BitVec.getElem_zero, Bool.and_eq_false_iff]
    by_contra hc
    rw [not_or, Bool.not_eq_false, Bool.not_eq_false, getLsbD_gathered hf hi, getLsbD_62 hi] at hc
    obtain ⟨⟨k, hk⟩, h1, _⟩ := hc
    exact hb ⟨k, by omega⟩
  · rintro ⟨k, hk⟩ h0
    have h5 := hf k
    have h32 : (f k).toNat < 32 := by omega
    have := congrArg (fun w => w.getLsbD (f k).toNat) h0
    rw [BitVec.getLsbD_and, (getLsbD_gathered hf h32).2 ⟨k, rfl⟩, (getLsbD_62 h32).2 ⟨by omega, h5⟩] at this
    simp at this

/-- A label between 0 and 5 as a signed number is at most 5 as a number. -/
theorem toNat_le_of_range {f : BitVec 32} (h0 : IntOp.cmpi .sge f 0#32 = 1#1) (h5 : IntOp.cmpi .sle f 5#32 = 1#1) :
    f.toNat ≤ 5 := by
  rw [IntOp.cmpi_sge] at h0
  rw [IntOp.cmpi_sle] at h5
  have e0 : (0#32 : BitVec 32).toInt = 0 := by decide
  have e5 : (5#32 : BitVec 32).toInt = 5 := by decide
  have e := BitVec.toInt_eq_toNat_cond f
  have := f.isLt
  rw [e0] at h0
  rw [e5] at h5
  split at e <;> omega

/-! ## The forms in which the programs write them -/

theorem denom_eq {n : ℕ} (p : Fin n → BitVec 1) :
    denom p = if 0 < count p then count p else Ideal.ofBits .f32 0x51BA43B7#32 := by
  by_cases h : 0 < count p
  · rw [if_pos h]; exact if_pos ((occurs_eq_one_iff_pos p).2 h)
  · rw [if_neg h]; exact if_neg (fun e => h ((occurs_eq_one_iff_pos p).1 e))

/-- The kernel's row: the whole-row bit in row 5 of the block, the label's bit in the rows before it. -/
def rowBit (f : BitVec 32) (r : ℕ) : BitVec 1 :=
  Scalar.select (IntOp.cmpi .eq (BitVec.ofNat 32 r) 5#32) (nonpad f) (labelBit f r)

theorem rowBit_five (f : BitVec 32) : rowBit f 5 = nonpad f := rfl

theorem rowBit_label (f : BitVec 32) {r : ℕ} (hr : r < 5) : rowBit f r = labelBit f r := by
  refine if_neg ?_
  show ¬IntOp.cmpi .eq (BitVec.ofNat 32 r) 5#32 = 1#1
  rw [IntOp.cmpi_eq, ← BitVec.toNat_inj, BitVec.toNat_ofNat, Nat.mod_eq_of_lt (by omega)]
  show r ≠ 5
  omega

theorem select_bitVal (c a b : BitVec 1) :
    Scalar.select c (Scalar.select a (1 : EReal) 0) (Scalar.select b 1 0) = bitVal (Scalar.select c a b) := by
  unfold bitVal Scalar.select
  split <;> rfl

/-! ## A label's number, as either program writes it -/

theorem addi_one_right (r : ℕ) : IntOp.addi (BitVec.ofNat 32 r) 1#32 = BitVec.ofNat 32 (r + 1) :=
  (BitVec.ofNat_add r 1).symm

theorem addi_one_left (r : ℕ) : IntOp.addi 1#32 (BitVec.ofNat 32 r) = BitVec.ofNat 32 (r + 1) := by
  rw [Nat.add_comm]; exact (BitVec.ofNat_add 1 r).symm

end Cert.Proof.Means
end
-- ==== Proof.Arrays.lean ====
/- What the kernel's run leaves in its four output arrays at the ideal numbers: every element is a masked mean of the
   argument arrays. -/
module

public import proofs.«01_k».proof.Proof.Run
public import proofs.«01_k».proof.Proof.Means
public import Idealize.ShloMosaic.Lib.Pointwise
public import Idealize.ShloMosaic.Lib.Pipeline.ValueKit.Geometry

@[expose] public section

set_option maxRecDepth 16384

noncomputable section

namespace Cert.Proof

open Cert.KernelIdeal Cert.KernelIdeal.Gen
open Idealize.ShloMosaic Idealize.ShloMosaic.TcCoe
open Idealize.SL Idealize.SL.RA
open Idealize.ShloMosaic.Pipeline (Dat Cfg Window)
open Cert.Proof.Means

/-! ## A row's means -/

/-- A target row's block of eight: the mean over the bits of row `r`. -/
theorem tar_payload (f : Vec Ideal S1x512 .i32) (s : Vec Ideal S1x512x512 .f32) (r : Fin 8) (h : Fin 512) :
    k0_pay7 (F := Ideal) f s (ix2 r h) = mean (fun k => rowBit (f (ix2 0 k)) r) (fun k => s (ix3 0 k h)) := by
  rw [← sum_mul_reciprocal, denom_eq]
  pointwise [k0_pay7]
  simp only [select_bitVal, addi_one_right]
  rfl

/-- The same of one of the other rows. -/
theorem ref_payload (f : Vec Ideal S1x1x256 .i32) (s : Vec Ideal S1x1x256x512 .f32) (r : Fin 8) (h : Fin 512) :
    k0_pay43 (F := Ideal) f s (ix2 r h) = mean (fun k => rowBit (f (ix3 0 0 k)) r) (fun k => s (ix4 0 0 k h)) := by
  rw [← sum_mul_reciprocal, denom_eq]
  pointwise [k0_pay43]
  simp only [select_bitVal, addi_one_right]
  rfl

theorem tar_row (x2 : Vec Ideal S8x512 .i32) (x3 : Vec Ideal S8x512x512 .f32) (k : ℕ) (hk : k < 8) (r : Fin 8) (h : Fin 512) :
    tarRow (F := Ideal) x2 x3 k hk (ix2 r h)
      = mean (fun j => rowBit (x2 (ix2 ⟨k, hk⟩ j)) r) (fun j => x3 (ix3 ⟨k, hk⟩ j h)) := by
  rw [tarRow, tar_payload]
  pointwise

theorem ref_row (x0 : Vec Ideal S1x32x256 .i32) (x1 : Vec Ideal S1x32x256x512 .f32) (k : ℕ) (hk : k < 32) (r : Fin 8)
    (h : Fin 512) :
    refRow (F := Ideal) x0 x1 k hk (ix2 r h)
      = mean (fun j => rowBit (x0 (ix3 0 ⟨k, hk⟩ j)) r) (fun j => x1 (ix4 0 ⟨k, hk⟩ j h)) := by
  rw [refRow, ref_payload]
  pointwise

/-! ## The blocks the body reads -/

variable (m : (ℓ : Loc nD τ sig) → Buf (Elt Ideal) ℓ) (c : Dev nD)

/-- The arguments: the target states and labels, the other rows' states and labels. -/
abbrev tarStates : Vec Ideal S8x512x512 .f32 := m ((c : Thread nD τ).loc main_arg0)
abbrev tarFuncs : Vec Ideal S8x512 .i32 := m ((c : Thread nD τ).loc main_arg1)
abbrev refStates : Vec Ideal S8x32x256x512 .f32 := m ((c : Thread nD τ).loc main_arg2)
abbrev refFuncs : Vec Ideal S8x32x256 .i32 := m ((c : Thread nD τ).loc main_arg3)

theorem index_0 : ∀ t : Fin cfg0.N, win0_0.index t = ![t.val, 0, 0] := (by decide +kernel : ∀ t : Fin grid0.N, _)
theorem index_1 : ∀ t : Fin cfg0.N, win0_1.index t = ![t.val, 0, 0, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![0, 0, 0] := (by decide +kernel : ∀ t : Fin grid0.N, _)
theorem index_4 : ∀ t : Fin cfg0.N, win0_4.index t = ![t.val, 0, 0, 0] := (by decide +kernel : ∀ t : Fin grid0.N, _)
theorem index_5 : ∀ t : Fin cfg0.N, win0_5.index t = ![t.val, 0, 0, 0] := (by decide +kernel : ∀ t : Fin grid0.N, _)
theorem index_6 : ∀ t : Fin cfg0.N, win0_6.index t = ![0, 0, 0] := (by decide +kernel : ∀ t : Fin grid0.N, _)
theorem index_7 : ∀ t : Fin cfg0.N, win0_7.index t = ![0, 0, 0] := (by decide +kernel : ∀ t : Fin grid0.N, _)

theorem lt_eight (t : Fin cfg0.N) : t.val < 8 := lt_of_lt_of_eq t.isLt (show cfg0.N = 8 from N_0)

theorem block_0 (t : Fin cfg0.N) (n : Fin 32) (k : Fin 256) :
    iblk m c 0 t (ix3 0 n k) = refFuncs m c (ix3 ⟨t.val, lt_eight t⟩ n k) := by
  blk_simp [iblk]
  show m _ _ = m _ _
  congr 1
  blk_ext [index_0]

theorem block_1 (t : Fin cfg0.N) (n : Fin 32) (k : Fin 256) (h : Fin 512) :
    iblk m c 1 t (ix4 0 n k h) = refStates m c (ix4 ⟨t.val, lt_eight t⟩ n k h) := by
  blk_simp [iblk]
  show m _ _ = m _ _
  congr 1
  blk_ext [index_1]

theorem block_2 (t : Fin cfg0.N) (b : Fin 8) (k : Fin 512) :
    iblk m c 2 t (ix2 b k) = tarFuncs m c (ix2 b k) := by
  blk_simp [iblk]
  show m _ _ = m _ _
  congr 1
  blk_ext [index_2]

theorem block_3 (t : Fin cfg0.N) (b : Fin 8) (k : Fin 512) (h : Fin 512) :
    iblk m c 3 t (ix3 b k h) = tarStates m c (ix3 b k h) := by
  blk_simp [iblk]
  show m _ _ = m _ _
  congr 1
  blk_ext [index_3]

/-! ## The arrays after the run -/

/-- The other rows' label means, as the run leaves them. -/
def refLabelsArr : Vec Ideal S8x5x32x512 .f32 := fun i =>
  mean (fun k => labelBit (refFuncs m c (ix3 (i 0) (i 2) k)) (i 1).val)
      (fun k => refStates m c (ix4 (i 0) (i 2) k (i 3)))
/-- The other rows' means over what is not padding. -/
def refPaperArr : Vec Ideal S8x1x32x512 .f32 := fun i =>
  mean (fun k => nonpad (refFuncs m c (ix3 (i 0) (i 2) k))) (fun k => refStates m c (ix4 (i 0) (i 2) k (i 3)))
/-- The target rows' label means. -/
def tarLabelsArr : Vec Ideal S5x8x512 .f32 := fun i =>
  mean (fun k => labelBit (tarFuncs m c (ix2 (i 1) k)) (i 0).val) (fun k => tarStates m c (ix3 (i 1) k (i 2)))
/-- The target rows' means over what is not padding. -/
def tarPaperArr : Vec Ideal S1x8x512 .f32 := fun i =>
  mean (fun k => nonpad (tarFuncs m c (ix2 (i 1) k))) (fun k => tarStates m c (ix3 (i 1) k (i 2)))

theorem refLabelsOf_apply (t : Fin cfg0.N) (y : S1x5x32x512.Idx) : refLabelsOf m c t y
    = mean (fun k => labelBit (refFuncs m c (ix3 ⟨t.val, lt_eight t⟩ (y 2) k)) (y 1).val)
        (fun k => refStates m c (ix4 ⟨t.val, lt_eight t⟩ (y 2) k (y 3))) := by
  refine (ref_row _ _ _ _ _ _).trans ?_
  refine congrArg₂ mean (funext fun k => ?_) (funext fun k => ?_)
  · rw [block_0]; exact rowBit_label _ (y 1).isLt
  · exact block_1 m c t _ _ _

theorem refPaperOf_apply (t : Fin cfg0.N) (y : S1x1x32x512.Idx) : refPaperOf m c t y
    = mean (fun k => nonpad (refFuncs m c (ix3 ⟨t.val, lt_eight t⟩ (y 2) k)))
        (fun k => refStates m c (ix4 ⟨t.val, lt_eight t⟩ (y 2) k (y 3))) := by
  refine (ref_row _ _ _ _ _ _).trans ?_
  refine congrArg₂ mean (funext fun k => ?_) (funext fun k => ?_)
  · rw [block_0]; exact rowBit_five _
  · exact block_1 m c t _ _ _

theorem tarLabelsOf_apply (y : S5x8x512.Idx) : tarLabelsOf m c y
    = mean (fun k => labelBit (tarFuncs m c (ix2 (y 1) k)) (y 0).val) (fun k => tarStates m c (ix3 (y 1) k (y 2))) := by
  refine (tar_row _ _ _ _ _ _).trans ?_
  refine congrArg₂ mean (funext fun k => ?_) (funext fun k => ?_)
  · rw [block_2]; exact rowBit_label _ (y 0).isLt
  · exact block_3 m c t₀ _ _ _

theorem tarPaperOf_apply (y : S1x8x512.Idx) : tarPaperOf m c y
    = mean (fun k => nonpad (tarFuncs m c (ix2 (y 1) k))) (fun k => tarStates m c (ix3 (y 1) k (y 2))) := by
  refine (tar_row _ _ _ _ _ _).trans ?_
  refine congrArg₂ mean (funext fun k => ?_) (funext fun k => ?_)
  · rw [block_2]; exact rowBit_five _
  · exact block_3 m c t₀ _ _ _

theorem array_4 : (dats m 0 c).arrAt 4 cfg0.N = refLabelsArr m c := by
  refine (dats m 0 c).arrAt_eq_of_covers 4 _ (by decide +kernel) fun t hf y => ?_
  have e : ((cfg0.win 4).blk t).view.emb y = ix4 ⟨t.val, lt_eight t⟩ (y 1) (y 2) (y 3) := by
    idx_bounds y
    blk_ext [index_4]
  rw [e, after_4]
  exact refLabelsOf_apply m c t y

theorem array_5 : (dats m 0 c).arrAt 5 cfg0.N = refPaperArr m c := by
  refine (dats m 0 c).arrAt_eq_of_covers 5 _ (by decide +kernel) fun t hf y => ?_
  have e : ((cfg0.win 5).blk t).view.emb y = ix4 ⟨t.val, lt_eight t⟩ (y 1) (y 2) (y 3) := by
    idx_bounds y
    blk_ext [index_5]
  rw [e, after_5]
  exact refPaperOf_apply m c t y

theorem array_6 : (dats m 0 c).arrAt 6 cfg0.N = tarLabelsArr m c := by
  refine (dats m 0 c).arrAt_eq_of_covers 6 _ (by decide +kernel) fun t hf y => ?_
  have e : ((cfg0.win 6).blk t).view.emb y = ix3 (y 0) (y 1) (y 2) := by
    idx_bounds y
    blk_ext [index_6]
  rw [e, after_6]
  exact tarLabelsOf_apply m c y

theorem array_7 : (dats m 0 c).arrAt 7 cfg0.N = tarPaperArr m c := by
  refine (dats m 0 c).arrAt_eq_of_covers 7 _ (by decide +kernel) fun t hf y => ?_
  have e : ((cfg0.win 7).blk t).view.emb y = ix3 (y 0) (y 1) (y 2) := by
    idx_bounds y
    blk_ext [index_7]
  rw [e, after_7]
  exact tarPaperOf_apply m c y

end Cert.Proof

end
-- ==== Proof.Tail.lean ====
/- The kernel's eight results at the ideal numbers: what the host operations after the run make of its output arrays and
   of the labels, when every label is between 0 and 5. -/
module

public import proofs.«01_k».proof.Proof.Arrays

@[expose] public section

set_option maxRecDepth 16384

noncomputable section

namespace Cert.Proof

open Cert.KernelIdeal Cert.KernelIdeal.Gen
open Idealize.ShloMosaic Idealize.ShloMosaic.TcCoe
open Idealize.SL Idealize.SL.RA
open Idealize.ShloMosaic.Pipeline (Dat Cfg Window)
open Cert.Proof.Means

variable (m : (ℓ : Loc nD τ sig) → Buf (Elt Ideal) ℓ) (c : Dev nD)

/-! ## What the host operations find -/

/-- What a buffer holds when the program ends. -/
abbrev final (b : Ref sig .tc) : Buf (Elt Ideal) ((c.tc : Thread nD τ).loc b) :=
  Pipeline.afterTail₀ cfgs (dats m) 0 (V0 m) [hostOps1] c b

/-- An array is found as the run leaves it. -/
theorem mid_arr (w : Fin 8) :
      Pipeline.withArrays (cfgs 0).spec c (V0 m c) (fun w => (dats m 0 c).arrAt w (cfgs 0).N) (Proc.devRef .tc (Pipeline.arrRef spec0 w))
        = (dats m 0 c).arrAt w cfg0.N :=
  Pipeline.withArrays_arr spec0 winFacts0.arr_inj c _ _ w

theorem mid_tar_funcs :
      Pipeline.withArrays (cfgs 0).spec c (V0 m c) (fun w => (dats m 0 c).arrAt w (cfgs 0).N) (Proc.devRef .tc main_arg1)
        = tarFuncs m c :=
  (mid_arr m c 2).trans (((dats m 0 c).arrAt_in 2 rfl _).trans (A_eq m c 2))
theorem mid_ref_funcs :
      Pipeline.withArrays (cfgs 0).spec c (V0 m c) (fun w => (dats m 0 c).arrAt w (cfgs 0).N) (Proc.devRef .tc main_arg3)
        = refFuncs m c :=
  (mid_arr m c 0).trans (((dats m 0 c).arrAt_in 0 rfl _).trans (A_eq m c 0))
theorem mid_ref_labels :
      Pipeline.withArrays (cfgs 0).spec c (V0 m c) (fun w => (dats m 0 c).arrAt w (cfgs 0).N) (Proc.devRef .tc main_v0_0)
        = refLabelsArr m c := (mid_arr m c 4).trans (array_4 m c)
theorem mid_ref_paper :
      Pipeline.withArrays (cfgs 0).spec c (V0 m c) (fun w => (dats m 0 c).arrAt w (cfgs 0).N) (Proc.devRef .tc main_v0_1)
        = refPaperArr m c := (mid_arr m c 5).trans (array_5 m c)
theorem mid_tar_labels :
      Pipeline.withArrays (cfgs 0).spec c (V0 m c) (fun w => (dats m 0 c).arrAt w (cfgs 0).N) (Proc.devRef .tc main_v0_2)
        = tarLabelsArr m c := (mid_arr m c 6).trans (array_6 m c)
theorem mid_tar_paper :
      Pipeline.withArrays (cfgs 0).spec c (V0 m c) (fun w => (dats m 0 c).arrAt w (cfgs 0).N) (Proc.devRef .tc main_v0_3)
        = tarPaperArr m c := (mid_arr m c 7).trans (array_7 m c)

/-! ## The means -/

theorem final_tar_labels (b : Fin 8) (r : Fin 5) (h : Fin 512) : final m c main_v39 (ix3 b r h)
    = mean (fun k => labelBit (tarFuncs m c (ix2 b k)) r) (fun k => tarStates m c (ix3 b k h)) := by
  unfold final Pipeline.afterTail₀
  rw [show ([hostOps1] : List (List (HloOp τ sig (Elt Ideal)))).flatten = hostOps1 from rfl]
  after_results
  rw [mid_tar_labels]
  pointwise [tarLabelsArr]

theorem final_ref_labels (b : Fin 8) (n : Fin 32) (r : Fin 5) (h : Fin 512) : final m c main_v40 (ix4 b n r h)
    = mean (fun k => labelBit (refFuncs m c (ix3 b n k)) r) (fun k => refStates m c (ix4 b n k h)) := by
  unfold final Pipeline.afterTail₀
  rw [show ([hostOps1] : List (List (HloOp τ sig (Elt Ideal)))).flatten = hostOps1 from rfl]
  after_results
  rw [mid_ref_labels]
  pointwise [refLabelsArr]

theorem final_tar_paper (b : Fin 8) (h : Fin 512) : final m c main_v41 (ix2 b h)
    = mean (fun k => nonpad (tarFuncs m c (ix2 b k))) (fun k => tarStates m c (ix3 b k h)) := by
  unfold final Pipeline.afterTail₀
  rw [show ([hostOps1] : List (List (HloOp τ sig (Elt Ideal)))).flatten = hostOps1 from rfl]
  after_results
  rw [mid_tar_paper]
  show shapeCast _ _ _ _ = _
  pointwise [tarPaperArr]

theorem final_ref_paper (b : Fin 8) (n : Fin 32) (h : Fin 512) : final m c main_v43 (ix3 b n h)
    = mean (fun k => nonpad (refFuncs m c (ix3 b n k))) (fun k => refStates m c (ix4 b n k h)) := by
  unfold final Pipeline.afterTail₀
  rw [show ([hostOps1] : List (List (HloOp τ sig (Elt Ideal)))).flatten = hostOps1 from rfl]
  after_results
  rw [mid_ref_paper]
  show shapeCast _ _ _ _ = _
  pointwise [refPaperArr]

/-! ## The masks -/

theorem final_tar_labels_mask (hf : ∀ b k, (tarFuncs m c (ix2 b k)).toNat ≤ 5) (b : Fin 8) (r : Fin 5) :
    final m c main_v15 (ix2 b r) = occurs fun k => labelBit (tarFuncs m c (ix2 b k)) r := by
  unfold final Pipeline.afterTail₀
  rw [show ([hostOps1] : List (List (HloOp τ sig (Elt Ideal)))).flatten = hostOps1 from rfl]
  after_results
  rw [mid_tar_funcs, ← label_mask (hf b) r.isLt, ← addi_one_left r.val]
  pointwise
  rfl

theorem final_ref_labels_mask (hf : ∀ b n k, (refFuncs m c (ix3 b n k)).toNat ≤ 5) (b : Fin 8) (n : Fin 32) (r : Fin 5) :
    final m c main_v34 (ix3 b n r) = occurs fun k => labelBit (refFuncs m c (ix3 b n k)) r := by
  unfold final Pipeline.afterTail₀
  rw [show ([hostOps1] : List (List (HloOp τ sig (Elt Ideal)))).flatten = hostOps1 from rfl]
  after_results
  rw [mid_ref_funcs, ← label_mask (hf b n) r.isLt, ← addi_one_left r.val]
  pointwise
  rfl

theorem final_tar_paper_mask (hf : ∀ b k, (tarFuncs m c (ix2 b k)).toNat ≤ 5) (b : Fin 8) :
    final m c main_v19 (ix1 b) = occurs fun k => nonpad (tarFuncs m c (ix2 b k)) := by
  unfold final Pipeline.afterTail₀
  rw [show ([hostOps1] : List (List (HloOp τ sig (Elt Ideal)))).flatten = hostOps1 from rfl]
  after_results
  rw [mid_tar_funcs, ← nonpad_mask (hf b)]
  pointwise
  rfl

theorem final_ref_paper_mask (hf : ∀ b n k, (refFuncs m c (ix3 b n k)).toNat ≤ 5) (b : Fin 8) (n : Fin 32) :
    final m c main_v38 (ix2 b n) = occurs fun k => nonpad (refFuncs m c (ix3 b n k)) := by
  unfold final Pipeline.afterTail₀
  rw [show ([hostOps1] : List (List (HloOp τ sig (Elt Ideal)))).flatten = hostOps1 from rfl]
  after_results
  rw [mid_ref_funcs, ← nonpad_mask (hf b n)]
  pointwise
  rfl

end Cert.Proof

end
-- ==== Proof.Reference.lean ====
/- The reference's eight results at the ideal numbers, at an index: the means, and whether what they average occurs. -/
module

public import proofs.«01_k».proof.Proof.Means
public import proofs.«01_k».proof.Proof.Gen.ReferenceIdeal.Read

@[expose] public section

set_option maxRecDepth 16384

noncomputable section

namespace Cert.Proof.Reference

open Cert.ReferenceIdeal Cert.ReferenceIdeal.Gen Cert.ReferenceIdeal.Read
open Idealize.ShloMosaic Cert.Proof.Means

variable (x0 : Vec Ideal S8x512x512 .f32) (x1 : Vec Ideal S8x512 .i32) (x2 : Vec Ideal S8x32x256x512 .f32)
  (x3 : Vec Ideal S8x32x256 .i32)

/-- The target rows' label means. -/
theorem tar_labels (b : Fin 8) (r : Fin 5) (h : Fin 512) :
    val_main_v16 (F := Ideal) x0 x1 (ix3 b r h)
      = mean (fun k => labelBit (x1 (ix2 b k)) r) (fun k => x0 (ix3 b k h)) := by
  rw [← val_main_v16_eq, mean, denom_eq]
  pointwise
  simp only [uitofp_eq_bitVal, addi_one_left]
  rfl

/-- Which labels occur in a target row. -/
theorem tar_labels_mask (b : Fin 8) (r : Fin 5) :
    val_main_v12 (F := Ideal) x1 (ix2 b r) = occurs fun k => labelBit (x1 (ix2 b k)) r := by
  rw [← val_main_v12_eq]
  pointwise
  simp only [uitofp_eq_bitVal, addi_one_left]
  rfl

/-- The label means of the other rows. -/
theorem ref_labels (b : Fin 8) (n : Fin 32) (r : Fin 5) (h : Fin 512) :
    val_main_v33 (F := Ideal) x2 x3 (ix4 b n r h)
      = mean (fun k => labelBit (x3 (ix3 b n k)) r) (fun k => x2 (ix4 b n k h)) := by
  rw [← val_main_v33_eq, mean, denom_eq]
  pointwise
  simp only [uitofp_eq_bitVal, addi_one_left]
  rfl

/-- Which labels occur in one of the other rows. -/
theorem ref_labels_mask (b : Fin 8) (n : Fin 32) (r : Fin 5) :
    val_main_v29 (F := Ideal) x3 (ix3 b n r) = occurs fun k => labelBit (x3 (ix3 b n k)) r := by
  rw [← val_main_v29_eq]
  pointwise
  simp only [uitofp_eq_bitVal, addi_one_left]
  rfl

/-- The target rows' means over what is not padding. -/
theorem tar_paper (b : Fin 8) (h : Fin 512) :
    val_main_v44 (F := Ideal) x0 x1 (ix2 b h)
      = mean (fun k => nonpad (x1 (ix2 b k))) (fun k => x0 (ix3 b k h)) := by
  rw [← val_main_v44_eq, mean, denom_eq]
  pointwise
  simp only [uitofp_eq_bitVal]
  rfl

/-- Which target rows are not all padding. -/
theorem tar_paper_mask (b : Fin 8) :
    val_main_v40 (F := Ideal) x1 (ix1 b) = occurs fun k => nonpad (x1 (ix2 b k)) := by
  rw [← val_main_v40_eq]
  pointwise
  simp only [uitofp_eq_bitVal]
  rfl

/-- The other rows' means over what is not padding. -/
theorem ref_paper (b : Fin 8) (n : Fin 32) (h : Fin 512) :
    val_main_v55 (F := Ideal) x2 x3 (ix3 b n h)
      = mean (fun k => nonpad (x3 (ix3 b n k))) (fun k => x2 (ix4 b n k h)) := by
  rw [← val_main_v55_eq, mean, denom_eq]
  pointwise
  simp only [uitofp_eq_bitVal]
  rfl

/-- Which of the other rows are not all padding. -/
theorem ref_paper_mask (b : Fin 8) (n : Fin 32) :
    val_main_v51 (F := Ideal) x3 (ix2 b n) = occurs fun k => nonpad (x3 (ix3 b n k)) := by
  rw [← val_main_v51_eq]
  pointwise
  simp only [uitofp_eq_bitVal]
  rfl

end Cert.Proof.Reference

end
-- ==== Proof.Algebraic.lean ====
/- The kernel and the reference end with equal results at the ideal numbers when every label is between 0 and 5: both
   programs' eight results are the means of `Means.lean` and whether what they average occurs. -/
module

public import proofs.«01_k».proof.Defs
public import proofs.«01_k».proof.Proof.Tail
public import proofs.«01_k».proof.Proof.Reference
public import proofs.«01_k».proof.Proof.Gen.ReferenceIdeal.Run
public import Idealize.ShloMosaic.Lib.ReduceAll
public import Idealize.ShloMosaic.Lib.Quiescent

@[expose] public section

set_option maxRecDepth 16384

noncomputable section

namespace Cert.Proof

open Idealize.ShloMosaic Idealize.ShloMosaic.TcCoe Idealize.SL.Sem
open Cert.Proof.Means

/-! ## The precondition -/

/-- The side conditions the precondition states. -/
instance pre_facts : Cert.Pre_labels_in_range.Facts where
  bcast_S_S8x512 := by decide
  reducesTo_S8x512_S_d0_1 := by decide
  h_S_ := by decide
  bcast_S_S8x32x256 := by decide
  reducesTo_S8x32x256_S_d0_1_2 := by decide

instance : Subsingleton Cert.Pre_labels_in_range.S_.Idx := ⟨fun _ _ => funext fun d => d.elim0⟩

/-- A conjunction of the two comparisons over a whole array gives them at each index. -/
theorem label_le {s u : Shape} {axes : List (Fin s.rank)} {t : Shape} [Subsingleton t.Idx] {x : IVec s 32} {lo hi : IVec s 32}
    (hlo : ∀ i, lo i = 0#32) (hhi : ∀ i, hi i = 5#32) {init : u.Idx → BitVec 1} {h : s.ReducesTo axes t} {hu : 0 < u.numel}
    (e : Host.reduce IntOp.andi (andi (cmpi .sge x lo) (cmpi .sle x hi)) init h hu = fun _ => 1#1) (j : t.Idx) (i : s.Idx) :
    (x i).toNat ≤ 5 := by
  obtain ⟨h0, h5⟩ := IntOp.andi_eq_one.1 (Host.reduce_andi_all _ _ h hu j (congrFun e j) i)
  refine toNat_le_of_range ?_ ?_
  · rw [← hlo i]; exact h0
  · rw [← hhi i]; exact h5

section Labels
variable (m : (ℓ : Loc Cert.KernelIdeal.nD Cert.KernelIdeal.τ Cert.KernelIdeal.sig) → Buf (Elt Ideal) ℓ)
  (hpre : Cert.Pre_KernelIdeal_labels_in_range m) (c : Dev Cert.KernelIdeal.nD)
include hpre

/-- Under the precondition a target row's label is at most 5. -/
theorem tar_label_le (b : Fin 8) (k : Fin 512) : (tarFuncs m c (ix2 b k)).toNat ≤ 5 := by
  have e := (hpre c).1
  unfold Cert.Pre_labels_in_range.fn at e
  dsimp only at e
  refine label_le ?_ ?_ e ix0 (ix2 b k) <;> exact fun _ => rfl

/-- Under the precondition a label of the other rows is at most 5. -/
theorem ref_label_le (b : Fin 8) (n : Fin 32) (k : Fin 256) : (refFuncs m c (ix3 b n k)).toNat ≤ 5 := by
  have e := (hpre c).2
  unfold Cert.Pre_labels_in_range.fn at e
  dsimp only at e
  refine label_le ?_ ?_ e ix0 (ix3 b n k) <;> exact fun _ => rfl

end Labels

/-! ## The kernel's run and the reference's frame -/

section Runs
open Cert.KernelIdeal Cert.KernelIdeal.Gen

/-- A buffer no window stages ends at what the host operations leave in it. -/
theorem ran_final (m : (ℓ : Loc nD τ sig) → Buf (Elt Ideal) ℓ) (ρ : Dev nD → PrngReg) :
    θ_run defs (onTc (τ := τ) (main (F := Ideal))) ⟨m, fun _ => 0, ρ⟩ fun r =>
      ∀ (c : Dev nD), ∀ b ∈ Pipeline.restRefs sig spec0, r.2.mem ((c.tc : Thread nD τ).loc b) = final m c b :=
  (θ_run defs _ _).mono (fun _ h c => (h c).2) (ran m ρ)

end Runs

/-- The reference runs, leaves its arguments as they were, and has no counter that could end off zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem (c.tc.loc Cert.ReferenceIdeal.main_arg0) = m (c.tc.loc Cert.ReferenceIdeal.main_arg0)
        ∧ r.2.mem (c.tc.loc Cert.ReferenceIdeal.main_arg1) = m (c.tc.loc Cert.ReferenceIdeal.main_arg1)
        ∧ r.2.mem (c.tc.loc Cert.ReferenceIdeal.main_arg2) = m (c.tc.loc Cert.ReferenceIdeal.main_arg2)
        ∧ r.2.mem (c.tc.loc Cert.ReferenceIdeal.main_arg3) = m (c.tc.loc Cert.ReferenceIdeal.main_arg3))
        ∧ r.2.sem = fun _ => 0) :=
  (θ_run _ _ _).mono (fun _ h => ⟨fun c => (h c).2.2.2.2.2.2.2.2, sem_eq_zero_of_no_sems rfl _⟩)
    (Cert.ReferenceIdeal.Value.run m g)

/-! ## The results -/

section Results
open Cert.KernelIdeal (main_v39 main_v15 main_v40 main_v34 main_v41 main_v19 main_v43 main_v38)
open Cert.ReferenceIdeal.Read

variable (m : (ℓ : Loc Cert.KernelIdeal.nD Cert.KernelIdeal.τ Cert.KernelIdeal.sig) → Buf (Elt Ideal) ℓ)
  (c : Dev Cert.KernelIdeal.nD)

/-- The target rows' label means agree. -/
theorem eq_tar_labels : val_main_v16 (F := Ideal) (tarStates m c) (tarFuncs m c) = final m c main_v39 := by
  funext i; rw [eq_ix3 i]; exact (Reference.tar_labels _ _ _ _ _).trans (final_tar_labels m c _ _ _).symm

/-- The label means of the other rows agree. -/
theorem eq_ref_labels : val_main_v33 (F := Ideal) (refStates m c) (refFuncs m c) = final m c main_v40 := by
  funext i; rw [eq_ix4 i]; exact (Reference.ref_labels _ _ _ _ _ _).trans (final_ref_labels m c _ _ _ _).symm

/-- The target rows' means over what is not padding agree. -/
theorem eq_tar_paper : val_main_v44 (F := Ideal) (tarStates m c) (tarFuncs m c) = final m c main_v41 := by
  funext i; rw [eq_ix2 i]; exact (Reference.tar_paper _ _ _ _).trans (final_tar_paper m c _ _).symm

/-- The other rows' means over what is not padding agree. -/
theorem eq_ref_paper : val_main_v55 (F := Ideal) (refStates m c) (refFuncs m c) = final m c main_v43 := by
  funext i; rw [eq_ix3 i]; exact (Reference.ref_paper _ _ _ _ _).trans (final_ref_paper m c _ _ _).symm

variable (hpre : Cert.Pre_KernelIdeal_labels_in_range m)
include hpre

/-- Which labels occur in a target row: the bit of the gathered word is the comparison of the count. -/
theorem eq_tar_labels_mask : val_main_v12 (F := Ideal) (tarFuncs m c) = final m c main_v15 := by
  funext i; rw [eq_ix2 i]
  exact (Reference.tar_labels_mask _ _ _).trans (final_tar_labels_mask m c (tar_label_le m hpre c) _ _).symm

/-- Which labels occur in one of the other rows. -/
theorem eq_ref_labels_mask : val_main_v29 (F := Ideal) (refFuncs m c) = final m c main_v34 := by
  funext i; rw [eq_ix3 i]
  exact (Reference.ref_labels_mask _ _ _ _).trans (final_ref_labels_mask m c (ref_label_le m hpre c) _ _ _).symm

/-- Whether anything but padding occurs in a target row. -/
theorem eq_tar_paper_mask : val_main_v40 (F := Ideal) (tarFuncs m c) = final m c main_v19 := by
  funext i; rw [eq_ix1 i]
  exact (Reference.tar_paper_mask _ _).trans (final_tar_paper_mask m c (tar_label_le m hpre c) _).symm

/-- Whether anything but padding occurs in one of the other rows. -/
theorem eq_ref_paper_mask : val_main_v51 (F := Ideal) (refFuncs m c) = final m c main_v38 := by
  funext i; rw [eq_ix2 i]
  exact (Reference.ref_paper_mask _ _ _).trans (final_ref_paper_mask m c (ref_label_le m hpre c) _ _).symm

end Results

open Cert.ReferenceIdeal.Read in
/-- Equal results from equal arguments. -/
theorem algebraic : Cert.algebraic_KernelIdeal_ReferenceIdeal_pre_labels_in_range := by
  intro m g m' g' hpre hargs
  refine ⟨fun c => final m c _, fun c => final m c _, fun c => final m c _, fun c => final m c _, fun c => final m c _,
    fun c => final m c _, fun c => final m c _, fun c => final m c _, ?_, ?_⟩
  · refine (θ_run _ _ _).mono (fun r h c => ?_) (θ_run_and (ran_final m g) (kernel_frame m g))
    have hf := h.1 c
    exact ⟨hf _ (by decide), hf _ (by decide), hf _ (by decide), hf _ (by decide), hf _ (by decide), hf _ (by decide),
      hf _ (by decide), hf _ (by decide), h.2.1 c⟩
  · refine (θ_run _ _ _).mono (fun r h c => ?_) (Cert.ReferenceIdeal.Value.run m' g')
    obtain ⟨a0, a1, a2, a3⟩ := hargs c
    obtain ⟨h0, h1, h2, h3, h4, h5, h6, h7, hr⟩ := h c
    rw [val_main_v16_eq, a0, a1] at h0
    rw [val_main_v12_eq, a1] at h1
    rw [val_main_v33_eq, a2, a3] at h2
    rw [val_main_v29_eq, a3] at h3
    rw [val_main_v44_eq, a0, a1] at h4
    rw [val_main_v40_eq, a1] at h5
    rw [val_main_v55_eq, a2, a3] at h6
    rw [val_main_v51_eq, a3] at h7
    exact ⟨h0.trans (eq_tar_labels m c), h1.trans (eq_tar_labels_mask m c hpre), h2.trans (eq_ref_labels m c),
      h3.trans (eq_ref_labels_mask m c hpre), h4.trans (eq_tar_paper m c), h5.trans (eq_tar_paper_mask m c hpre),
      h6.trans (eq_ref_paper m c), h7.trans (eq_ref_paper_mask m c hpre), hr⟩

end Cert.Proof

end
-- ==== Proof.lean ====
module

public import proofs.«01_k».proof.Defs
public import proofs.«01_k».proof.Proof.Same
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, pre_facts,
    kernel_quiescent, fun m ρ _ => kernel_frame m ρ, fun m ρ _ => kernel_frame m ρ,
    fun m ρ _ => reference_frame m ρ, fun m ρ _ => reference_frame m ρ, trivial, algebraic⟩

end Cert.Proof

end
